-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_0) = v0 c
          ∧ r.2.mem ((c.tc : Thread Cert.ReferenceIdeal.nD Cert.ReferenceIdeal.τ).loc Cert.ReferenceIdeal.main_v38_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S4096x22016 : Shape := ⟨2, ![4096, 22016]⟩
abbrev S22016 : Shape := ⟨1, ![22016]⟩
abbrev S1 : Shape := ⟨1, ![1]⟩
abbrev S16x4096 : Shape := ⟨2, ![16, 4096]⟩
abbrev S1x22016 : Shape := ⟨2, ![1, 22016]⟩
abbrev S16x22016 : Shape := ⟨2, ![16, 22016]⟩
abbrev S256x22016 : Shape := ⟨2, ![256, 22016]⟩
abbrev S16x16x256 : Shape := ⟨3, ![16, 16, 256]⟩
abbrev S8x128 : Shape := ⟨2, ![8, 128]⟩
abbrev S1x1 : Shape := ⟨2, ![1, 1]⟩
abbrev S16x256 : Shape := ⟨2, ![16, 256]⟩
abbrev S1x16x256 : Shape := ⟨3, ![1, 16, 256]⟩

abbrev nBuf : Space → Nat
  | .hbm => 11
  | .vmem => 9
  | .smem => 2
  | _ => 0

abbrev bufTy : (tb : Table) → Fin (tcTables nBuf tb) → BufTy
  | .hbm, ⟨0, _⟩ => ⟨S16x1x4096, .bf16⟩
  | .hbm, ⟨1, _⟩ => ⟨S4096x22016, .fp8e4m3⟩
  | .hbm, ⟨2, _⟩ => ⟨S22016, .f32⟩
  | .hbm, ⟨3, _⟩ => ⟨S1, .f32⟩
  | .hbm, ⟨4, _⟩ => ⟨S22016, .f32⟩
  | .hbm, ⟨5, _⟩ => ⟨S16x4096, .bf16⟩
  | .hbm, ⟨6, _⟩ => ⟨S1x22016, .f32⟩
  | .hbm, ⟨7, _⟩ => ⟨S1x22016, .f32⟩
  | .hbm, ⟨8, _⟩ => ⟨S16x22016, .bf16⟩
  | .hbm, ⟨9, _⟩ => ⟨S16x4096, .fp8e4m3⟩
  | .hbm, ⟨10, _⟩ => ⟨S1, .f32⟩
  | .local _ .vmem, ⟨0, _⟩ => ⟨S16x4096, .bf16⟩
  | .local _ .vmem, ⟨1, _⟩ => ⟨S256x22016, .fp8e4m3⟩
  | .local _ .vmem, ⟨2, _⟩ => ⟨S256x22016, .fp8e4m3⟩
  | .local _ .vmem, ⟨3, _⟩ => ⟨S1x22016, .f32⟩
  | .local _ .vmem, ⟨4, _⟩ => ⟨S1x22016, .f32⟩
  | .local _ .vmem, ⟨5, _⟩ => ⟨S16x22016, .bf16⟩
  | .local _ .vmem, ⟨6, _⟩ => ⟨S16x4096, .fp8e4m3⟩
  | .local _ .vmem, ⟨7, _⟩ => ⟨S16x22016, .f32⟩
  | .local _ .vmem, ⟨8, _⟩ => ⟨S16x16x256, .fp8e4m3⟩
  | .local _ .smem, ⟨0, _⟩ => ⟨S1, .f32⟩
  | .local _ .smem, ⟨1, _⟩ => ⟨S1, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v4 : Index := Scalar.indexCast arg0
  let c0_2 : Index := 0#32
  let c0_3 : Index := 0#32
  ![v4.toNat, 0, 0]
def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_8 : BitVec 32 := 0#32
  let v15 : BitVec 1 := Scalar.cmpi .ne v14 c0_i32_8
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x22016 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x22016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x22016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x22016 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x1x4096 : Shape := ⟨3, ![16, 1, 4096]⟩
abbrev S4096x22016 : Shape := ⟨2, ![4096, 22016]⟩
abbrev S22016 : Shape := ⟨1, ![22016]⟩
abbrev S1 : Shape := ⟨1, ![1]⟩
abbrev S254 : Shape := ⟨1, ![254]⟩
abbrev S_ : Shape := ⟨0, ![]⟩
abbrev S16x4096 : Shape := ⟨2, ![16, 4096]⟩
abbrev S1x1 : Shape := ⟨2, ![1, 1]⟩
abbrev S1x22016 : Shape := ⟨2, ![1, 22016]⟩
abbrev S16x22016 : Shape := ⟨2, ![16, 22016]⟩

abbrev nBuf : Space → Nat
  | .hbm => 68
  | .vmem => 6
  | .smem => 0
  | _ => 0

abbrev bufTy : (tb : Table) → Fin (tcTables nBuf tb) → BufTy
  | .hbm, ⟨0, _⟩ => ⟨S16x1x4096, .bf16⟩
  | .hbm, ⟨1, _⟩ => ⟨S4096x22016, .fp8e4m3⟩
  | .hbm, ⟨2, _⟩ => ⟨S22016, .f32⟩
  | .hbm, ⟨3, _⟩ => ⟨S1, .f32⟩
  | .hbm, ⟨4, _⟩ => ⟨S22016, .f32⟩
  | .hbm, ⟨5, _⟩ => ⟨S254, .i32⟩
  | .hbm, ⟨6, _⟩ => ⟨S_, .i32⟩
  | .hbm, ⟨7, _⟩ => ⟨S254, .i32⟩
  | .hbm, ⟨8, _⟩ => ⟨S254, .i32⟩
  | .hbm, ⟨9, _⟩ => ⟨S254, .f32⟩
  | .hbm, ⟨10, _⟩ => ⟨S_, .f32⟩
  | .hbm, ⟨11, _⟩ => ⟨S254, .f32⟩
  | .hbm, ⟨12, _⟩ => ⟨S254, .f32⟩
  | .hbm, ⟨13, _⟩ => ⟨S1, .f32⟩
  | .hbm, ⟨14, _⟩ => ⟨S254, .f32⟩
  | .hbm, ⟨15, _⟩ => ⟨S254, .i1⟩
  | .hbm, ⟨16, _⟩ => ⟨S254, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .f32⟩
  | .hbm, ⟨22, _⟩ => ⟨S1, .f32⟩
  | .hbm, ⟨23, _⟩ => ⟨S1, .i1⟩
  | .hbm, ⟨24, _⟩ => ⟨S1, .i1⟩
  | .hbm, ⟨25, _⟩ => ⟨S1, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S1, .i1⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S16x4096, .bf16⟩
  | .hbm, ⟨50, _⟩ => ⟨S16x4096, .f32⟩
  | .hbm, ⟨51, _⟩ => ⟨S1x1, .f32⟩
  | .hbm, ⟨52, _⟩ => ⟨S16x4096, .f32⟩
  | .hbm, ⟨53, _⟩ => ⟨S16x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x4096, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S22016, .f32⟩
  | .hbm, ⟨63, _⟩ => ⟨S22016, .f32⟩
  | .hbm, ⟨64, _⟩ => ⟨S1x22016, .f32⟩
  | .hbm, ⟨65, _⟩ => ⟨S1x22016, .f32⟩
  | .hbm, ⟨66, _⟩ => ⟨S16x22016, .bf16⟩
  | .hbm, ⟨67, _⟩ => ⟨S16x4096, .fp8e4m3⟩
  | .local _ .vmem, ⟨0, _⟩ => ⟨S16x4096, .f32⟩
  | .local _ .vmem, ⟨1, _⟩ => ⟨S4096x22016, .fp8e4m3⟩
  | .local _ .vmem, ⟨2, _⟩ => ⟨S1x22016, .f32⟩
  | .local _ .vmem, ⟨3, _⟩ => ⟨S1x22016, .f32⟩
  | .local _ .vmem, ⟨4, _⟩ => ⟨S16x22016, .bf16⟩
  | .local _ .vmem, ⟨5, _⟩ => ⟨S16x4096, .fp8e4m3⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_cst_11 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x22016 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x22016 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x22016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x22016 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Points.lean ====
/-
  What the body runs at the sixteen grid points share: the two branch conditions in closed form (the first branch is
  taken at the first point only, the second at the last point only), the staging buffers and the two scratch buffers by
  name, and the launch's invariant written with the two scratch buffers.
-/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x22016 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x22016 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x22016 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x22016 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x22016 .f32 := Memref.whole cc0_scratch0
abbrev scM0_1 : Memref sig .tc .vmem S16x16x256 .fp8e4m3 := Memref.whole cc0_scratch1
/-- The scratch `arg9` the kernel carries between points, as a view: what it holds is stated through it. -/
abbrev VS0_0 : View sig .tc .vmem S16x22016 .f32 := scM0_0.view
/-- The scratch `arg10` the kernel carries between points, as a view: what it holds is stated through it. -/
abbrev VS0_1 : View sig .tc .vmem S16x16x256 .fp8e4m3 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.Bits.RunA.lean ====
/-
  The body at the first grid point: it finds the quantiser, writes the codes and the scale, keeps the codes in scratch block
  by block, clears the accumulator and adds the first block's product.
-/
module

public import proofs.«01_k».proof.Proof.Bits.Points

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runA (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    Σ' (L7 : List (View.Piece (Elt F) S16x4096 .fp8e4m3)), Σ' (L8 : List (View.Piece (Elt F) S1 .f32)), Σ' (L9 : List (View.Piece (Elt F) S16x22016 .f32)), { L10 : List (View.Piece (Elt F) S16x16x256 .fp8e4m3) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; iexact H7
    isplitl [H8]
    · iexists _; iexact H8
    isplitl [H9]
    · iexists _; iexact H9
    iexists _; iexact H10

end Cert.Kernel.Body

end
-- ==== Proof.Bits.RunB.lean ====
/-
  The body at a middle grid point: it adds one block's product to the accumulator.
-/
module

public import proofs.«01_k».proof.Proof.Bits.RunA

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runB (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) :
    { L9 : List (View.Piece (Elt F) S16x22016 .f32) //
      ∀ (E : Set ℕ) (K : PUnit → sProp 𝕄),
        iprop(owns (c : Thread nD τ) arg3 fullShare x3 ∗ owns (c : Thread nD τ) arg9 fullShare x9 ∗ owns (c : Thread nD τ) arg10 fullShare x10
            ∗ (iprop(owns (c : Thread nD τ) arg3 fullShare x3 ∗ (∃ f, arg9.view.loc (c : Thread nD τ) ↦[arg9.view.set]{fullShare} arg9.view.writes (Elt F) f L9) ∗ owns (c : Thread nD τ) arg10 fullShare x10) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f3, %hf3, H3⟩, ⟨%f9, %hf9, H9⟩, ⟨%f10, %hf10, H10⟩, Hk⟩
    obtain rfl := harg3.eq_unread hf3; obtain rfl := harg9.eq_unread hf9; obtain rfl := harg10.eq_unread hf10
    sl_exec (disch := first | sl_exact hc0 | sl_exact hc1)
    sl_step
    iapply Hk
    isplitl [H3]
    · iexists _; isplitr; · ipureintro; exact harg3.read_unread _
      iexact H3
    isplitl [H9]
    · iexists _; iexact H9
    iexists _; isplitr; · ipureintro; exact harg10.read_unread _
    iexact H10

end Cert.Kernel.Body

end
-- ==== Proof.Bits.RunC.lean ====
/-
  The body at the last grid point: it adds the last block's product and writes the result.
-/
module

public import proofs.«01_k».proof.Proof.Bits.RunB

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runC (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    Σ' (L6 : List (View.Piece (Elt F) S16x22016 .bf16)), { L9 : List (View.Piece (Elt F) S16x22016 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg9 fullShare x9 ∗ owns (c : Thread nD τ) arg10 fullShare x10
            ∗ (iprop(owns (c : Thread nD τ) arg1 fullShare x1 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg9.view.loc (c : Thread nD τ) ↦[arg9.view.set]{fullShare} arg9.view.writes (Elt F) f L9) ∗ owns (c : Thread nD τ) arg10 fullShare x10) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg3.eq_unread hf3; obtain rfl := harg4.eq_unread hf4; obtain rfl := harg5.eq_unread hf5; obtain rfl := harg9.eq_unread hf9; obtain rfl := harg10.eq_unread hf10
    sl_exec (disch := first | sl_exact hc0 | sl_exact hc1)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H9]
    · iexists _; iexact H9
    iexists _; isplitr; · ipureintro; exact harg10.read_unread _
    iexact H10

end Cert.Kernel.Body

end
-- ==== Proof.Bits.BlockValue.lean ====
/-
  What one grid point computes, as functions of the blocks it loads: the codes of the input, the scratch that keeps the
  codes block by block, one step of the accumulation, and the result. Then: the pieces each run leaves are these functions.
-/
module

public import proofs.«01_k».proof.Proof.Bits.RunC
public import Idealize.ShloMosaic.Lib.Pipeline.Value
public import Idealize.ShloMosaic.Lib.ValueIdx

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The scale: the one element of its block. -/
def scaleOf (x1 : Vec F S1 .f32) : Elt F .f32 := x1 (ix1 (0 : Fin 1))

/-- The codes of the whole input `x2` under the scale block `x1`: the kernel's chain of payloads. -/
def codesOf (x1 : Vec F S1 .f32) (x2 : Vec F S16x4096 .bf16) : Vec F S16x4096 .fp8e4m3 :=
  k0_pay11 (FloatOps.ofBits FTy.f32 1138753536#32)
    (k0_pay10 (k0_pay6 (scaleOf x1)) (k0_pay7 (scaleOf x1)) (k0_pay8 (scaleOf x1)) (k0_pay9 (scaleOf x1)) 23#32 x2)

/-- The codes kept block by block: block `k` is columns `256 k` to `256 k + 255`. -/
def keep (q : Vec F S16x4096 .fp8e4m3) : Vec F S16x16x256 .fp8e4m3 := fun y =>
  q (ix2 (y 1) ⟨256 * (y 0).val + (y 2).val, by
    have h0 : (y 0).val < 16 := (y 0).isLt
    have h2 : (y 2).val < 256 := (y 2).isLt
    show 256 * (y 0).val + (y 2).val < 4096
    omega⟩)

/-- The kept block a point loads. -/
def slab (i : grid0.Coords) (k : Vec F S16x16x256 .fp8e4m3) : Vec F S1x16x256 .fp8e4m3 :=
  View.ld k (Rect.unit (s := S16x16x256) (k0_off1 i) S1x16x256.size (k0_off1_inb i))

/-- One step: the accumulator `a` plus the product of the kept block with the weight block `w`. -/
def stepOf (i : grid0.Coords) (a : Vec F S16x22016 .f32) (k : Vec F S16x16x256 .fp8e4m3) (w : Vec F S256x22016 .fp8e4m3) :
    Vec F S16x22016 .f32 := k0_pay4 a (slab i k) w

theorem hz : (![0, 0] : Fin 2 → Nat) = fun _ => 0 := funext fun a => by fin_cases a <;> rfl
theorem hz1 : (![0] : Fin 1 → Nat) = fun _ => 0 := funext fun a => by fin_cases a; rfl

/-- The one element the body loads from a block of one element. -/
theorem ld_first (x : Vec F S1 .f32) (j : S1.Idx) : x j = scaleOf x :=
  congrArg x (funext fun a => by
    match a with | ⟨0, _⟩ => exact Fin.ext (by have h : (j 0).val < 1 := (j 0).isLt; show (j 0).val = 0; omega))

/-- Case C: the accumulator after the last point. -/
theorem outC_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    View.canon (runC c i arg1 harg1 arg2 harg2 arg3 harg3 arg4 harg4 arg5 harg5 arg6 harg6 arg7 harg7 arg8 harg8 arg9 harg9 arg10 harg10 hc0 hc1 x1 x3 x4 x5 x9 x10).2.1 = stepOf i x9 x10 x3 := by
  unfold runC
  dsimp only
  sl_unfold_words
  rw [View.canon_unit_zero hz]
  simp only [View.readAt_eq_ld, harg3.read_unread, harg9.read_unread, harg10.read_unread, View.ld_unit_zero (S := S16x22016) hz, View.ld_unit_zero (S := S256x22016) hz]
  rfl

/-- Case C: the result block. -/
theorem outC_6 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    View.canon (runC c i arg1 harg1 arg2 harg2 arg3 harg3 arg4 harg4 arg5 harg5 arg6 harg6 arg7 harg7 arg8 harg8 arg9 harg9 arg10 harg10 hc0 hc1 x1 x3 x4 x5 x9 x10).1 = k0_pay5 (stepOf i x9 x10 x3) (scaleOf x1) x4 x5 := by
  unfold runC
  dsimp only
  sl_unfold_words
  rw [View.canon_unit_zero hz, View.readCov_unit_zero (S := S16x22016) _ hz]
  simp only [View.readAt_eq_ld, harg1.read_unread, harg3.read_unread, harg4.read_unread, harg5.read_unread, harg9.read_unread, harg10.read_unread, View.ld_unit_zero (S := S16x22016) hz, View.ld_unit_zero (S := S256x22016) hz, View.ld_unit_zero (S := S1x22016) hz, View.ld_unit_zero (S := S1) hz1, ld_first]
  rfl

/-- Case B: the accumulator after a middle point. -/
theorem outB_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) :
    View.canon (runB c i arg1 harg1 arg2 harg2 arg3 harg3 arg4 harg4 arg5 harg5 arg6 harg6 arg7 harg7 arg8 harg8 arg9 harg9 arg10 harg10 hc0 hc1 x3 x9 x10).1 = stepOf i x9 x10 x3 := by
  unfold runB
  dsimp only
  sl_unfold_words
  rw [View.canon_unit_zero hz]
  simp only [View.readAt_eq_ld, harg3.read_unread, harg9.read_unread, harg10.read_unread, View.ld_unit_zero (S := S16x22016) hz, View.ld_unit_zero (S := S256x22016) hz]
  rfl

/-- Case A: the codes block. -/
theorem outA_7 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).1 = codesOf x1 x2 := by
  unfold runA
  dsimp only
  sl_unfold_words
  rw [View.canon_unit_zero hz]
  simp only [View.readAt_eq_ld, harg1.read_unread, harg2.read_unread, View.ld_unit_zero (S := S16x4096) hz, View.ld_unit_zero (S := S1) hz1, ld_first]
  rfl

/-- Case A: the scale's block. -/
theorem outA_8 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.1 = x1 := by
  unfold runA
  dsimp only
  sl_unfold_words
  rw [View.canon_unit_zero hz1]
  simp only [View.readAt_eq_ld, harg1.read_unread, View.ld_unit_zero (S := S1) hz1, ld_first]
  exact funext fun j => (ld_first x1 j).symm

/-- One stored piece of the kept codes: a slice of 256 columns, given a leading unit axis, is the kept block. -/
theorem keep_piece (q : Vec F S16x4096 .fp8e4m3) (k o : Nat) (ho : o = 256 * k)
    (inb : ∀ a, (![k, 0, 0] : Fin 3 → Nat) a + S1x16x256.size a ≤ S16x16x256.size a)
    (h : S16x4096.Slices ![0, o] S16x256) (hs : S16x256.ShapeCasts S1x16x256) (x : S1x16x256.Idx) :
    shapeCast S1x16x256 (extractStridedSlice S16x256 ![0, o] q h) hs x
      = keep q ((Rect.unit (s := S16x16x256) ![k, 0, 0] S1x16x256.size inb).emb x) := by
  subst ho
  have h0 : (x 0).val < 1 := (x 0).isLt
  refine (shapeCast_addUnit_apply _ _ _ x).trans ?_
  refine (extractStridedSlice_apply _ _ _ _ (ix2 (x 1) ⟨256 * k + (x 2).val, ?_⟩) ?_).trans ?_
  · have := inb 0
    have hk : k + 1 ≤ 16 := this
    have h2 : (x 2).val < 256 := (x 2).isLt
    show _ < 4096
    omega
  · intro a
    match a with
    | ⟨0, _⟩ => show (x 1).val = 0 + (x 1).val; omega
    | ⟨1, _⟩ => rfl
  · refine congrArg q (funext fun a => Fin.ext ?_)
    match a with
    | ⟨0, _⟩ => show (x 1).val = 0 + 1 * (x 1).val; omega
    | ⟨1, _⟩ => show 256 * k + (x 2).val = 256 * (k + 1 * (x 0).val) + (0 + 1 * (x 2).val); omega

/-- Sixteen pieces, one per kept block, leave the kept codes. -/
theorem canon_keep (q : Vec F S16x4096 .fp8e4m3) (L : List (View.Piece (Elt F) S16x16x256 .fp8e4m3))
    (hL : ∀ p ∈ L, ∀ x : p.1.shape.Idx, p.2 x = keep q (p.1.emb x)) (hc : ∀ y, ∃ p ∈ L, y ∈ p.1.set) :
    View.canon L = keep q := funext fun y => View.canon_apply_of_pieces (keep q) L hL y (hc y)

/-- The sixteen stores of the kept codes, the last first. -/
noncomputable def keptPieces (c : F .f32) (v : FVec F S16x4096 .f32) : List (View.Piece (Elt F) S16x16x256 .fp8e4m3) :=
  [⟨Rect.unit (s := S16x16x256) ![15, 0, 0] S1x16x256.size inb_S16x16x256_S1x16x256_15_0_0, k0_pay2 (k0_pay11 c v)⟩,
   ⟨Rect.unit (s := S16x16x256) ![14, 0, 0] S1x16x256.size inb_S16x16x256_S1x16x256_14_0_0, k0_pay1 (k0_pay27 (k0_pay11 c v))⟩,
   ⟨Rect.unit (s := S16x16x256) ![13, 0, 0] S1x16x256.size inb_S16x16x256_S1x16x256_13_0_0, k0_pay26 (k0_pay11 c v)⟩,
   ⟨Rect.unit (s := S16x16x256) ![12, 0, 0] S1x16x256.size inb_S16x16x256_S1x16x256_12_0_0, k0_pay25 (k0_pay11 c v)⟩,
   ⟨Rect.unit (s := S16x16x256) ![11, 0, 0] S1x16x256.size inb_S16x16x256_S1x16x256_11_0_0, k0_pay24 (k0_pay11 c v)⟩,
   ⟨Rect.unit (s := S16x16x256) ![10, 0, 0] S1x16x256.size inb_S16x16x256_S1x16x256_10_0_0, k0_pay23 (k0_pay11 c v)⟩,
   ⟨Rect.unit (s := S16x16x256) ![9, 0, 0] S1x16x256.size inb_S16x16x256_S1x16x256_9_0_0, k0_pay22 (k0_pay11 c v)⟩,
   ⟨Rect.unit (s := S16x16x256) ![8, 0, 0] S1x16x256.size inb_S16x16x256_S1x16x256_8_0_0, k0_pay21 (k0_pay11 c v)⟩,
   ⟨Rect.unit (s := S16x16x256) ![7, 0, 0] S1x16x256.size inb_S16x16x256_S1x16x256_7_0_0, k0_pay20 (k0_pay11 c v)⟩,
   ⟨Rect.unit (s := S16x16x256) ![6, 0, 0] S1x16x256.size inb_S16x16x256_S1x16x256_6_0_0, k0_pay19 (k0_pay18 c v)⟩,
   ⟨Rect.unit (s := S16x16x256) ![5, 0, 0] S1x16x256.size inb_S16x16x256_S1x16x256_5_0_0, k0_pay17 c v⟩,
   ⟨Rect.unit (s := S16x16x256) ![4, 0, 0] S1x16x256.size inb_S16x16x256_S1x16x256_4_0_0, k0_pay16 c v⟩,
   ⟨Rect.unit (s := S16x16x256) ![3, 0, 0] S1x16x256.size inb_S16x16x256_S1x16x256_3_0_0, k0_pay15 c v⟩,
   ⟨Rect.unit (s := S16x16x256) ![2, 0, 0] S1x16x256.size inb_S16x16x256_S1x16x256_2_0_0, k0_pay14 c v⟩,
   ⟨Rect.unit (s := S16x16x256) ![1, 0, 0] S1x16x256.size inb_S16x16x256_S1x16x256_1_0_0, k0_pay13 c v⟩,
   ⟨Rect.unit (s := S16x16x256) ![0, 0, 0] S1x16x256.size inb_S16x16x256_S1x16x256_0_0_0, k0_pay12 c v⟩]

/-- Together they leave the kept codes. -/
theorem canon_keptPieces (c : F .f32) (v : FVec F S16x4096 .f32) : View.canon (keptPieces c v) = keep (k0_pay11 c v) := by
  refine canon_keep _ _ ?_ (View.cover_of_tiledL _ S1x16x256.size (by sl_kernel_rfl))
  generalize hq : k0_pay11 c v = q
  unfold keptPieces
  intro p hp
  simp only [List.mem_cons, List.not_mem_nil, or_false] at hp
  rcases hp with rfl | rfl | rfl | rfl | rfl | rfl | rfl | rfl | rfl | rfl | rfl | rfl | rfl | rfl | rfl | rfl
  all_goals
    intro x
    simp only [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, hq]
    refine keep_piece q _ _ ?_ _ _ _ x
    rfl

/-- Case A: the kept codes. -/
theorem outA_10 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.2.2.1 = keep (codesOf x1 x2) := by
  unfold runA
  dsimp only
  sl_unfold_words
  simp only [View.readAt_eq_ld, harg1.read_unread, harg2.read_unread, View.ld_unit_zero (S := S16x4096) hz, View.ld_unit_zero (S := S1) hz1, ld_first]
  exact canon_keptPieces _ _

/-- A load of one kept block after stores that leave `q`. -/
theorem readCov_slab (i : grid0.Coords) (v : View sig .tc .vmem S16x16x256 .fp8e4m3) (L : List (View.Piece (Elt F) S16x16x256 .fp8e4m3))
    (q : Vec F S16x16x256 .fp8e4m3) (hL : View.canon L = q) :
    v.readCov L (Rect.unit (s := S16x16x256) (k0_off1 i) S1x16x256.size (k0_off1_inb i)).toLoadRect = slab i q := by
  subst hL
  exact View.readCov_eq_canon' _ _ _

/-- Case A: the accumulator after the first point, from the cleared one. -/
theorem outA_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.2.1 = stepOf i k0_pay3 (keep (codesOf x1 x2)) x3 := by
  unfold runA
  dsimp only
  sl_unfold_words
  rw [View.canon_cons_unit_zero (S := S16x22016) hz, View.readCov_unit_zero (S := S16x22016) _ hz]
  have hw : View.readAt (Elt F) arg3.view (Rect.unit (s := S256x22016) ![0, 0] S256x22016.size inb_S256x22016_S256x22016_0_0).toLoadRect (harg3.unread x3) = x3 := by
    simp only [View.readAt_eq_ld, harg3.read_unread, View.ld_unit_zero (S := S256x22016) hz]
  refine congrArg₂ (fun k w => k0_pay4 k0_pay3 k w) (readCov_slab i _ _ _ ?_) hw
  simp only [View.readAt_eq_ld, harg1.read_unread, harg2.read_unread, View.ld_unit_zero (S := S16x4096) hz, View.ld_unit_zero (S := S1) hz1, ld_first]
  exact canon_keptPieces _ _

end Cert.Kernel.Body

end
-- ==== Proof.Bits.BlockRead.lean ====
/-
  What each buffer the body stores into holds after the run, in each of the three cases: the stored pieces cover the
  buffer, so its contents are the pieces' own (`BlockValue`), whatever it held before.
-/
module

public import proofs.«01_k».proof.Proof.Bits.BlockValue

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Case A: what `arg7` holds. -/
theorem readA_7 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg7.view.read (Elt F) (arg7.view.writes (Elt F) f (runA c i arg1 harg1 arg2 harg2 arg3 harg3 arg4 harg4 arg5 harg5 arg6 harg6 arg7 harg7 arg8 harg8 arg9 harg9 arg10 harg10 hc0 hc1 x1 x2 x3).1) = codesOf x1 x2 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).1 S16x4096.size (by sl_kernel_rfl))).trans
    (outA_7 c i arg1 harg1 arg2 harg2 arg3 harg3 arg4 harg4 arg5 harg5 arg6 harg6 arg7 harg7 arg8 harg8 arg9 harg9 arg10 harg10 hc0 hc1 x1 x2 x3)

/-- Case A: what `arg8` holds. -/
theorem readA_8 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg8.view.read (Elt F) (arg8.view.writes (Elt F) f (runA c i arg1 harg1 arg2 harg2 arg3 harg3 arg4 harg4 arg5 harg5 arg6 harg6 arg7 harg7 arg8 harg8 arg9 harg9 arg10 harg10 hc0 hc1 x1 x2 x3).2.1) = x1 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.1 S1.size (by sl_kernel_rfl))).trans
    (outA_8 c i arg1 harg1 arg2 harg2 arg3 harg3 arg4 harg4 arg5 harg5 arg6 harg6 arg7 harg7 arg8 harg8 arg9 harg9 arg10 harg10 hc0 hc1 x1 x2 x3)

/-- Case A: what `arg9` holds. -/
theorem readA_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg9.view.read (Elt F) (arg9.view.writes (Elt F) f (runA c i arg1 harg1 arg2 harg2 arg3 harg3 arg4 harg4 arg5 harg5 arg6 harg6 arg7 harg7 arg8 harg8 arg9 harg9 arg10 harg10 hc0 hc1 x1 x2 x3).2.2.1) = stepOf i k0_pay3 (keep (codesOf x1 x2)) x3 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.2.1 S16x22016.size (by sl_kernel_rfl))).trans
    (outA_9 c i arg1 harg1 arg2 harg2 arg3 harg3 arg4 harg4 arg5 harg5 arg6 harg6 arg7 harg7 arg8 harg8 arg9 harg9 arg10 harg10 hc0 hc1 x1 x2 x3)

/-- Case A: what `arg10` holds. -/
theorem readA_10 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg10.view.read (Elt F) (arg10.view.writes (Elt F) f (runA c i arg1 harg1 arg2 harg2 arg3 harg3 arg4 harg4 arg5 harg5 arg6 harg6 arg7 harg7 arg8 harg8 arg9 harg9 arg10 harg10 hc0 hc1 x1 x2 x3).2.2.2.1) = keep (codesOf x1 x2) :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.2.2.1 S1x16x256.size (by sl_kernel_rfl))).trans
    (outA_10 c i arg1 harg1 arg2 harg2 arg3 harg3 arg4 harg4 arg5 harg5 arg6 harg6 arg7 harg7 arg8 harg8 arg9 harg9 arg10 harg10 hc0 hc1 x1 x2 x3)

/-- Case B: what `arg9` holds. -/
theorem readB_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) (f) :
    arg9.view.read (Elt F) (arg9.view.writes (Elt F) f (runB c i arg1 harg1 arg2 harg2 arg3 harg3 arg4 harg4 arg5 harg5 arg6 harg6 arg7 harg7 arg8 harg8 arg9 harg9 arg10 harg10 hc0 hc1 x3 x9 x10).1) = stepOf i x9 x10 x3 :=
  (View.read_writes_eq_canon _ _ _ (View.cover_of_tiledL (runB c i arg1 harg1 arg2 harg2 arg3 harg3 arg4 harg4 arg5 harg5 arg6 harg6 arg7 harg7 arg8 harg8 arg9 harg9 arg10 harg10 hc0 hc1 x3 x9 x10).1 S16x22016.size (by sl_kernel_rfl))).trans
    (outB_9 c i arg1 harg1 arg2 harg2 arg3 harg3 arg4 harg4 arg5 harg5 arg6 harg6 arg7 harg7 arg8 harg8 arg9 harg9 arg10 harg10 hc0 hc1 x3 x9 x10)

/-- Case C: what `arg6` holds. -/
theorem readC_6 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) (f) :
    arg6.view.read (Elt F) (arg6.view.writes (Elt F) f (runC c i arg1 harg1 arg2 harg2 arg3 harg3 arg4 harg4 arg5 harg5 arg6 harg6 arg7 harg7 arg8 harg8 arg9 harg9 arg10 harg10 hc0 hc1 x1 x3 x4 x5 x9 x10).1) = k0_pay5 (stepOf i x9 x10 x3) (scaleOf x1) x4 x5 :=
  (View.read_writes_eq_canon _ _ _ (View.cover_of_tiledL (runC c i arg1 harg1 arg2 harg2 arg3 harg3 arg4 harg4 arg5 harg5 arg6 harg6 arg7 harg7 arg8 harg8 arg9 harg9 arg10 harg10 hc0 hc1 x1 x3 x4 x5 x9 x10).1 S16x22016.size (by sl_kernel_rfl))).trans
    (outC_6 c i arg1 harg1 arg2 harg2 arg3 harg3 arg4 harg4 arg5 harg5 arg6 harg6 arg7 harg7 arg8 harg8 arg9 harg9 arg10 harg10 hc0 hc1 x1 x3 x4 x5 x9 x10)

/-- Case C: what `arg9` holds. -/
theorem readC_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) (f) :
    arg9.view.read (Elt F) (arg9.view.writes (Elt F) f (runC c i arg1 harg1 arg2 harg2 arg3 harg3 arg4 harg4 arg5 harg5 arg6 harg6 arg7 harg7 arg8 harg8 arg9 harg9 arg10 harg10 hc0 hc1 x1 x3 x4 x5 x9 x10).2.1) = stepOf i x9 x10 x3 :=
  (View.read_writes_eq_canon _ _ _ (View.cover_of_tiledL (runC c i arg1 harg1 arg2 harg2 arg3 harg3 arg4 harg4 arg5 harg5 arg6 harg6 arg7 harg7 arg8 harg8 arg9 harg9 arg10 harg10 hc0 hc1 x1 x3 x4 x5 x9 x10).2.1 S16x22016.size (by sl_kernel_rfl))).trans
    (outC_9 c i arg1 harg1 arg2 harg2 arg3 harg3 arg4 harg4 arg5 harg5 arg6 harg6 arg7 harg7 arg8 harg8 arg9 harg9 arg10 harg10 hc0 hc1 x1 x3 x4 x5 x9 x10)

end Cert.Kernel.Body

end
-- ==== Proof.Bits.Dats.lean ====
/-
  The pipeline's proof data at the sixteen grid points, and the body's obligation: the accumulator after each point, the
  kept codes, the three outputs; the launch's run from it.
-/
module

public import proofs.«01_k».proof.Proof.Bits.BlockRead

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes of the input, computed at the first point. -/
def codesAt (c : Dev nD) : Vec F S16x4096 .fp8e4m3 := codesOf (iblk m c 0 t0_0) (iblk m c 1 t0_0)

/-- The kept codes. -/
def keptAt (c : Dev nD) : Vec F S16x16x256 .fp8e4m3 := keep (codesAt m c)

/-- The accumulator after point `n`. -/
def accAt (c : Dev nD) : (n : ℕ) → n < cfg0.N → Vec F S16x22016 .f32
  | 0, h => stepOf (grid0.coords ⟨0, h⟩) k0_pay3 (keptAt m c) (iblk m c 2 ⟨0, h⟩)
  | n + 1, h => stepOf (grid0.coords ⟨n + 1, h⟩) (accAt c n (Nat.lt_of_succ_lt h)) (keptAt m c) (iblk m c 2 ⟨n + 1, h⟩)

theorem accAt_zero (c : Dev nD) (t : Fin cfg0.N) (ht : t.val = 0) :
    accAt m c t.val t.isLt = stepOf (grid0.coords t) k0_pay3 (keptAt m c) (iblk m c 2 t) := by
  obtain ⟨n, hn⟩ := t
  dsimp only at ht
  subst ht
  rfl

theorem accAt_pos (c : Dev nD) (t : Fin cfg0.N) (ht : t.val ≠ 0) :
    accAt m c t.val t.isLt = stepOf (grid0.coords t) (accAt m c (t.val - 1) (Nat.lt_of_le_of_lt (Nat.sub_le _ _) t.isLt)) (keptAt m c) (iblk m c 2 t) := by
  obtain ⟨n, hn⟩ := t
  cases n with
  | zero => exact absurd rfl ht
  | succ n => rfl

/-- The result block at point `t`: only the last point's is stored. -/
def yAt (c : Dev nD) (t : Fin cfg0.N) : Vec F S16x22016 .bf16 :=
  k0_pay5 (accAt m c t.val t.isLt) (scaleOf (iblk m c 0 t)) (iblk m c 3 t) (iblk m c 4 t)

/-- The invariant before position `n`: before the first point the launch's (both scratch buffers at anything); afterwards
    the accumulator and the kept codes. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (keptAt m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (keptAt m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (keptAt m c)) ∗ (∃ r, prngReg c r)) := by
  cases n with
  | zero => exact absurd rfl hz
  | succ n => rfl

/-- The proof data: the arrays as the region finds them; after each point the inputs' buffers at their blocks, the result's
    at `yAt`, the codes' at the codes, the scale's at the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => codesAt m c
    | ⟨7, _⟩ => iblk m c 0 t0_0
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = codesAt m c := by dsimp only [dats]
theorem after0_7 (c : Dev nD) (t : Fin cfg0.N) : (dats m 0 c).after 7 t = iblk m c 0 t0_0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The points where the outputs are stored, left alone, and written back -/

/-- The result is left alone except at the last point. -/
theorem idle5 (t : Fin cfg0.N) (h1 : ¬t.val % 16 = 15) : cfg0.idle 5 (grid0.coords t) = true := by
  have h : ¬k0_cond2 (grid0.coords t) = 1#1 := fun h => h1 ((hcond0_1 t).mp h)
  show (!(k0_cond2 (grid0.coords t) == 1#1)) = true
  simp [h]
theorem live5 (t : Fin cfg0.N) (h1 : t.val % 16 = 15) : cfg0.idle 5 (grid0.coords t) = false := by
  have h : k0_cond2 (grid0.coords t) = 1#1 := (hcond0_1 t).mpr h1
  show (!(k0_cond2 (grid0.coords t) == 1#1)) = false
  simp [h]
theorem idle6 (t : Fin cfg0.N) (h0 : ¬t.val % 16 = 0) : cfg0.idle 6 (grid0.coords t) = true := by
  have h : ¬k0_cond1 (grid0.coords t) = 1#1 := fun h => h0 ((hcond0_0 t).mp h)
  show (!(k0_cond1 (grid0.coords t) == 1#1)) = true
  simp [h]
theorem live6 (t : Fin cfg0.N) (h0 : t.val % 16 = 0) : cfg0.idle 6 (grid0.coords t) = false := by
  have h : k0_cond1 (grid0.coords t) = 1#1 := (hcond0_0 t).mpr h0
  show (!(k0_cond1 (grid0.coords t) == 1#1)) = false
  simp [h]
theorem idle7 (t : Fin cfg0.N) (h0 : ¬t.val % 16 = 0) : cfg0.idle 7 (grid0.coords t) = true := by
  have h : ¬k0_cond1 (grid0.coords t) = 1#1 := fun h => h0 ((hcond0_0 t).mp h)
  show (!(k0_cond1 (grid0.coords t) == 1#1)) = true
  simp [h]
theorem live7 (t : Fin cfg0.N) (h0 : t.val % 16 = 0) : cfg0.idle 7 (grid0.coords t) = false := by
  have h : k0_cond1 (grid0.coords t) = 1#1 := (hcond0_0 t).mpr h0
  show (!(k0_cond1 (grid0.coords t) == 1#1)) = false
  simp [h]
theorem noflush5 (t : Fin cfg0.N) (h1 : ¬t.val % 16 = 15) : (cfg0.win 5).flush t = false :=
  Bool.eq_false_iff.mpr fun h => h1 ((flush0_5 t).mp h)
theorem noflush6 (t : Fin cfg0.N) (h1 : ¬t.val % 16 = 15) : (cfg0.win 6).flush t = false :=
  Bool.eq_false_iff.mpr fun h => h1 ((flush0_6 t).mp h)
theorem noflush7 (t : Fin cfg0.N) (h1 : ¬t.val % 16 = 15) : (cfg0.win 7).flush t = false :=
  Bool.eq_false_iff.mpr fun h => h1 ((flush0_7 t).mp h)

/-- After the first point the buffer of output 6 holds what the first point stored, at every later point. -/
theorem before6_succ (c : Dev nD) : ∀ (n : ℕ) (h : n + 1 < cfg0.N) (d), (dats m 0 c).before 6 ⟨n + 1, h⟩ d = codesAt m c := by
  intro n
  induction n with
  | zero =>
    intro h d
    rw [(dats m 0 c).before_of_pos 6 ⟨0 + 1, h⟩ (by dsimp only; omega) rfl d]
    rw [if_neg (by rw [noflush6 _ (by dsimp only; omega)]; exact Bool.false_ne_true)]
    unfold Dat.left
    rw [live6 _ (Nat.zero_mod 16)]
    show (dats m 0 c).kept 6 _ d = _
    unfold Dat.kept
    rw [after0_6]
    rfl
  | succ n ih =>
    intro h d
    have hN : cfg0.N = 16 := N_0
    rw [(dats m 0 c).before_of_pos 6 ⟨n + 1 + 1, h⟩ (by dsimp only; omega) rfl d]
    rw [if_neg (by rw [noflush6 _ (by dsimp only; omega)]; exact Bool.false_ne_true)]
    unfold Dat.left
    rw [idle6 _ (by dsimp only; omega)]
    exact ih (Nat.lt_of_succ_lt h) d

theorem before6_pos (c : Dev nD) (t : Fin cfg0.N) (ht : t.val ≠ 0) (d) : (dats m 0 c).before 6 t d = codesAt m c := by
  obtain ⟨n, hn⟩ := t
  cases n with
  | zero => exact absurd rfl ht
  | succ n => exact before6_succ m c n hn d

/-- After the first point the buffer of output 7 holds what the first point stored, at every later point. -/
theorem before7_succ (c : Dev nD) : ∀ (n : ℕ) (h : n + 1 < cfg0.N) (d), (dats m 0 c).before 7 ⟨n + 1, h⟩ d = iblk m c 0 t0_0 := by
  intro n
  induction n with
  | zero =>
    intro h d
    rw [(dats m 0 c).before_of_pos 7 ⟨0 + 1, h⟩ (by dsimp only; omega) rfl d]
    rw [if_neg (by rw [noflush7 _ (by dsimp only; omega)]; exact Bool.false_ne_true)]
    unfold Dat.left
    rw [live7 _ (Nat.zero_mod 16)]
    show (dats m 0 c).kept 7 _ d = _
    unfold Dat.kept
    rw [after0_7]
    rfl
  | succ n ih =>
    intro h d
    have hN : cfg0.N = 16 := N_0
    rw [(dats m 0 c).before_of_pos 7 ⟨n + 1 + 1, h⟩ (by dsimp only; omega) rfl d]
    rw [if_neg (by rw [noflush7 _ (by dsimp only; omega)]; exact Bool.false_ne_true)]
    unfold Dat.left
    rw [idle7 _ (by dsimp only; omega)]
    exact ih (Nat.lt_of_succ_lt h) d

theorem before7_pos (c : Dev nD) (t : Fin cfg0.N) (ht : t.val ≠ 0) (d) : (dats m 0 c).before 7 t d = iblk m c 0 t0_0 := by
  obtain ⟨n, hn⟩ := t
  cases n with
  | zero => exact absurd rfl ht
  | succ n => exact before7_succ m c n hn d

end Cert.Kernel.Body

end
-- ==== Proof.Bits.Body.lean ====
/-
  The body's obligation at every grid point, by the three cases; the launch's run and the frame from it.
-/
module

public import proofs.«01_k».proof.Proof.Bits.Dats
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves5_live (c : Dev nD) (t : Fin cfg0.N) (h1 : t.val % 16 = 15) :
    (dats m 0 c).leavesExact 5 t = owns (c : Thread nD τ) (ms0_5 t) fullShare (yAt m c t) := by
  unfold Dat.leavesExact; rw [live5 t h1]; dsimp only; rw [after0_5]
theorem leaves5_idle (c : Dev nD) (t : Fin cfg0.N) (h1 : ¬t.val % 16 = 15) :
    (dats m 0 c).leavesExact 5 t = iprop(∃ d, owns (c : Thread nD τ) (ms0_5 t) fullShare ((dats m 0 c).before 5 t d)) := by
  unfold Dat.leavesExact; rw [idle5 t h1, noflush5 t h1]
theorem leaves6_live (c : Dev nD) (t : Fin cfg0.N) (h0 : t.val % 16 = 0) :
    (dats m 0 c).leavesExact 6 t = owns (c : Thread nD τ) (ms0_6 t) fullShare (codesAt m c) := by
  unfold Dat.leavesExact; rw [live6 t h0]; dsimp only; rw [after0_6]
theorem leaves6_idle (c : Dev nD) (t : Fin cfg0.N) (h0 : ¬t.val % 16 = 0) (h1 : ¬t.val % 16 = 15) :
    (dats m 0 c).leavesExact 6 t = iprop(∃ d, owns (c : Thread nD τ) (ms0_6 t) fullShare ((dats m 0 c).before 6 t d)) := by
  unfold Dat.leavesExact; rw [idle6 t h0, noflush6 t h1]
theorem leaves6_last (c : Dev nD) (t : Fin cfg0.N) (h0 : ¬t.val % 16 = 0) (h1 : t.val % 16 = 15) :
    (dats m 0 c).leavesExact 6 t = owns (c : Thread nD τ) (ms0_6 t) fullShare (codesAt m c) := by
  unfold Dat.leavesExact; rw [idle6 t h0, (flush0_6 t).mpr h1]; dsimp only; rw [after0_6]
theorem leaves7_live (c : Dev nD) (t : Fin cfg0.N) (h0 : t.val % 16 = 0) :
    (dats m 0 c).leavesExact 7 t = owns (c : Thread nD τ) (ms0_7 t) fullShare ((iblk m c 0 t0_0)) := by
  unfold Dat.leavesExact; rw [live7 t h0]; dsimp only; rw [after0_7]
theorem leaves7_idle (c : Dev nD) (t : Fin cfg0.N) (h0 : ¬t.val % 16 = 0) (h1 : ¬t.val % 16 = 15) :
    (dats m 0 c).leavesExact 7 t = iprop(∃ d, owns (c : Thread nD τ) (ms0_7 t) fullShare ((dats m 0 c).before 7 t d)) := by
  unfold Dat.leavesExact; rw [idle7 t h0, noflush7 t h1]
theorem leaves7_last (c : Dev nD) (t : Fin cfg0.N) (h0 : ¬t.val % 16 = 0) (h1 : t.val % 16 = 15) :
    (dats m 0 c).leavesExact 7 t = owns (c : Thread nD τ) (ms0_7 t) fullShare ((iblk m c 0 t0_0)) := by
  unfold Dat.leavesExact; rw [idle7 t h0, (flush0_7 t).mpr h1]; dsimp only; rw [after0_7]

set_option maxHeartbeats 9600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 16 = 0
  · by_cases h1 : t.val % 16 = 15
    · exfalso; omega
    · skip
      have ht : t = t0_0 := Fin.ext (show t.val = 0 by omega)
      rw [PhiS_castSucc m c t, PhiS_zero m c _ _ (by omega), PhiA0_eq, accAt_zero m c t (by omega)]
      rw [leaves5_idle m c t h1, leaves6_live m c t h0, leaves7_live m c t h0]
      subst ht
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t0_0) _ _ _ _ _ _ _ _ _ _ _ _ _ _ _ _ _ _ _ _ ((hcond0_0 t0_0).mpr h0) (fun h => h1 ((hcond0_1 t0_0).mp h)) (iblk m c 0 t0_0) (iblk m c 1 t0_0) (iblk m c 2 t0_0)).2.2.2.2 Set.univ _)
      isplitl [H0]; · iexact H0
      isplitl [H1]; · iexact H1
      isplitl [H2]; · iexact H2
      isplitl [H6]; · iexists _; iexact H6
      isplitl [H7]; · iexists _; iexact H7
      isplitl [HS0]; · iexact HS0
      isplitl [HS1]; · iexact HS1
      iintro ⟨H0, H1, H2, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact readA_9 c _ _ _ _ _ _ _ _ _ _ _ _ _ _ _ _ _ _ _ _ _ _ _ _ _ _ _
          unfold owns; iexists _; isplitr
          swap; · iexact HS1
          ipureintro; exact readA_10 c _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; iexact H5
      isplitl [H6]
      · unfold owns; iexists _; isplitr
        swap; · iexact H6
        ipureintro; exact readA_7 c _ _ _ _ _ _ _ _ _ _ _ _ _ _ _ _ _ _ _ _ _ _ _ _ _ _ _
      unfold owns; iexists _; isplitr
      swap; · iexact H7
      ipureintro; exact readA_8 c _ _ _ _ _ _ _ _ _ _ _ _ _ _ _ _ _ _ _ _ _ _ _ _ _ _ _
  · by_cases h1 : t.val % 16 = 15
    · skip
      rw [PhiS_castSucc m c t, PhiS_pos m c _ _ (by omega)]
      rw [leaves5_live m c t h1, leaves6_last m c t h0 h1, leaves7_last m c t h0 h1]
      unfold yAt
      rw [accAt_pos m c t (by omega)]
      simp only [before6_pos m c t (by omega), before7_pos m c t (by omega)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) _ _ _ _ _ _ _ _ _ _ _ _ _ _ _ _ _ _ _ _ (fun h => h0 ((hcond0_0 t).mp h)) ((hcond0_1 t).mpr h1) (iblk m c 0 t) (iblk m c 2 t) (iblk m c 3 t) (iblk m c 4 t) _ _).2.2 Set.univ _)
      isplitl [H0]; · iexact H0
      isplitl [H2]; · iexact H2
      isplitl [H3]; · iexact H3
      isplitl [H4]; · iexact H4
      isplitl [H5]; · iexists _; iexact H5
      isplitl [HS0]; · iexact HS0
      isplitl [HS1]; · iexact HS1
      iintro ⟨H0, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact readC_9 c _ _ _ _ _ _ _ _ _ _ _ _ _ _ _ _ _ _ _ _ _ _ _ _ _ _ _ _ _ _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact readC_6 c _ _ _ _ _ _ _ _ _ _ _ _ _ _ _ _ _ _ _ _ _ _ _ _ _ _ _ _ _ _
      isplitl [H6]
      · iexact H6
      iexact H7
    · skip
      rw [PhiS_castSucc m c t, PhiS_pos m c _ _ (by omega), accAt_pos m c t (by omega)]
      rw [leaves5_idle m c t h1, leaves6_idle m c t h0 h1, leaves7_idle m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ _ _ _ _ (fun h => h0 ((hcond0_0 t).mp h)) (fun h => h1 ((hcond0_1 t).mp h)) (iblk m c 2 t) _ _).2 Set.univ _)
      isplitl [H2]; · iexact H2
      isplitl [HS0]; · iexact HS0
      isplitl [HS1]; · iexact HS1
      iintro ⟨H2, ⟨%es0, HS0⟩, HS1⟩
      isplitl [HS0 HS1 Hg]
      · isplitl [HS0 HS1]
        · isplitl [HS0]
          · unfold owns; iexists _; isplitr
            swap; · iexact HS0
            ipureintro; exact readB_9 c _ _ _ _ _ _ _ _ _ _ _ _ _ _ _ _ _ _ _ _ _ _ _ _ _ _ _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; iexact H5
      isplitl [H6]
      · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch's run: every array at what the proof data says, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.Points.lean ====
/-
  What the body runs at the sixteen grid points share: the two branch conditions in closed form (the first branch is
  taken at the first point only, the second at the last point only), the staging buffers and the two scratch buffers by
  name, and the launch's invariant written with the two scratch buffers.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x22016 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x22016 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x22016 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x22016 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x22016 .f32 := Memref.whole cc0_scratch0
abbrev scM0_1 : Memref sig .tc .vmem S16x16x256 .fp8e4m3 := Memref.whole cc0_scratch1
/-- The scratch `arg9` the kernel carries between points, as a view: what it holds is stated through it. -/
abbrev VS0_0 : View sig .tc .vmem S16x22016 .f32 := scM0_0.view
/-- The scratch `arg10` the kernel carries between points, as a view: what it holds is stated through it. -/
abbrev VS0_1 : View sig .tc .vmem S16x16x256 .fp8e4m3 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.RunA.lean ====
/-
  The body at the first grid point: it finds the quantiser, writes the codes and the scale, keeps the codes in scratch block
  by block, clears the accumulator and adds the first block's product.
-/
module

public import proofs.«01_k».proof.Proof.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runA (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    Σ' (L7 : List (View.Piece (Elt F) S16x4096 .fp8e4m3)), Σ' (L8 : List (View.Piece (Elt F) S1 .f32)), Σ' (L9 : List (View.Piece (Elt F) S16x22016 .f32)), { L10 : List (View.Piece (Elt F) S16x16x256 .fp8e4m3) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; iexact H7
    isplitl [H8]
    · iexists _; iexact H8
    isplitl [H9]
    · iexists _; iexact H9
    iexists _; iexact H10

end Cert.KernelIdeal.Body

end
-- ==== Proof.RunB.lean ====
/-
  The body at a middle grid point: it adds one block's product to the accumulator.
-/
module

public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runB (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) :
    { L9 : List (View.Piece (Elt F) S16x22016 .f32) //
      ∀ (E : Set ℕ) (K : PUnit → sProp 𝕄),
        iprop(owns (c : Thread nD τ) arg3 fullShare x3 ∗ owns (c : Thread nD τ) arg9 fullShare x9 ∗ owns (c : Thread nD τ) arg10 fullShare x10
            ∗ (iprop(owns (c : Thread nD τ) arg3 fullShare x3 ∗ (∃ f, arg9.view.loc (c : Thread nD τ) ↦[arg9.view.set]{fullShare} arg9.view.writes (Elt F) f L9) ∗ owns (c : Thread nD τ) arg10 fullShare x10) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f3, %hf3, H3⟩, ⟨%f9, %hf9, H9⟩, ⟨%f10, %hf10, H10⟩, Hk⟩
    obtain rfl := harg3.eq_unread hf3; obtain rfl := harg9.eq_unread hf9; obtain rfl := harg10.eq_unread hf10
    sl_exec (disch := first | sl_exact hc0 | sl_exact hc1)
    sl_step
    iapply Hk
    isplitl [H3]
    · iexists _; isplitr; · ipureintro; exact harg3.read_unread _
      iexact H3
    isplitl [H9]
    · iexists _; iexact H9
    iexists _; isplitr; · ipureintro; exact harg10.read_unread _
    iexact H10

end Cert.KernelIdeal.Body

end
-- ==== Proof.RunC.lean ====
/-
  The body at the last grid point: it adds the last block's product and writes the result.
-/
module

public import proofs.«01_k».proof.Proof.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers. It needs only the buffers this case touches. Each buffer it stores
    into ends with a list of pieces written over what it held: the lists are found by the run. -/
noncomputable def runC (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    Σ' (L6 : List (View.Piece (Elt F) S16x22016 .bf16)), { L9 : List (View.Piece (Elt F) S16x22016 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg9 fullShare x9 ∗ owns (c : Thread nD τ) arg10 fullShare x10
            ∗ (iprop(owns (c : Thread nD τ) arg1 fullShare x1 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg9.view.loc (c : Thread nD τ) ↦[arg9.view.set]{fullShare} arg9.view.writes (Elt F) f L9) ∗ owns (c : Thread nD τ) arg10 fullShare x10) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f1, %hf1, H1⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg3.eq_unread hf3; obtain rfl := harg4.eq_unread hf4; obtain rfl := harg5.eq_unread hf5; obtain rfl := harg9.eq_unread hf9; obtain rfl := harg10.eq_unread hf10
    sl_exec (disch := first | sl_exact hc0 | sl_exact hc1)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H9]
    · iexists _; iexact H9
    iexists _; isplitr; · ipureintro; exact harg10.read_unread _
    iexact H10

end Cert.KernelIdeal.Body

end
-- ==== Proof.BlockValue.lean ====
/-
  What one grid point computes, as functions of the blocks it loads: the codes of the input, the scratch that keeps the
  codes block by block, one step of the accumulation, and the result. Then: the pieces each run leaves are these functions.
-/
module

public import proofs.«01_k».proof.Proof.RunC
public import Idealize.ShloMosaic.Lib.Pipeline.Value
public import Idealize.ShloMosaic.Lib.ValueIdx

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The scale: the one element of its block. -/
def scaleOf (x1 : Vec F S1 .f32) : Elt F .f32 := x1 (ix1 (0 : Fin 1))

/-- The codes of the whole input `x2` under the scale block `x1`: the kernel's chain of payloads. -/
def codesOf (x1 : Vec F S1 .f32) (x2 : Vec F S16x4096 .bf16) : Vec F S16x4096 .fp8e4m3 :=
  k0_pay11 (FloatOps.ofBits FTy.f32 1138753536#32)
    (k0_pay10 (k0_pay6 (scaleOf x1)) (k0_pay7 (scaleOf x1)) (k0_pay8 (scaleOf x1)) (k0_pay9 (scaleOf x1)) 23#32 x2)

/-- The codes kept block by block: block `k` is columns `256 k` to `256 k + 255`. -/
def keep (q : Vec F S16x4096 .fp8e4m3) : Vec F S16x16x256 .fp8e4m3 := fun y =>
  q (ix2 (y 1) ⟨256 * (y 0).val + (y 2).val, by
    have h0 : (y 0).val < 16 := (y 0).isLt
    have h2 : (y 2).val < 256 := (y 2).isLt
    show 256 * (y 0).val + (y 2).val < 4096
    omega⟩)

/-- The kept block a point loads. -/
def slab (i : grid0.Coords) (k : Vec F S16x16x256 .fp8e4m3) : Vec F S1x16x256 .fp8e4m3 :=
  View.ld k (Rect.unit (s := S16x16x256) (k0_off1 i) S1x16x256.size (k0_off1_inb i))

/-- One step: the accumulator `a` plus the product of the kept block with the weight block `w`. -/
def stepOf (i : grid0.Coords) (a : Vec F S16x22016 .f32) (k : Vec F S16x16x256 .fp8e4m3) (w : Vec F S256x22016 .fp8e4m3) :
    Vec F S16x22016 .f32 := k0_pay4 a (slab i k) w

theorem hz : (![0, 0] : Fin 2 → Nat) = fun _ => 0 := funext fun a => by fin_cases a <;> rfl
theorem hz1 : (![0] : Fin 1 → Nat) = fun _ => 0 := funext fun a => by fin_cases a; rfl

/-- The one element the body loads from a block of one element. -/
theorem ld_first (x : Vec F S1 .f32) (j : S1.Idx) : x j = scaleOf x :=
  congrArg x (funext fun a => by
    match a with | ⟨0, _⟩ => exact Fin.ext (by have h : (j 0).val < 1 := (j 0).isLt; show (j 0).val = 0; omega))

/-- Case C: the accumulator after the last point. -/
theorem outC_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    View.canon (runC c i arg1 harg1 arg2 harg2 arg3 harg3 arg4 harg4 arg5 harg5 arg6 harg6 arg7 harg7 arg8 harg8 arg9 harg9 arg10 harg10 hc0 hc1 x1 x3 x4 x5 x9 x10).2.1 = stepOf i x9 x10 x3 := by
  unfold runC
  dsimp only
  sl_unfold_words
  rw [View.canon_unit_zero hz]
  simp only [View.readAt_eq_ld, harg3.read_unread, harg9.read_unread, harg10.read_unread, View.ld_unit_zero (S := S16x22016) hz, View.ld_unit_zero (S := S256x22016) hz]
  rfl

/-- Case C: the result block. -/
theorem outC_6 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) :
    View.canon (runC c i arg1 harg1 arg2 harg2 arg3 harg3 arg4 harg4 arg5 harg5 arg6 harg6 arg7 harg7 arg8 harg8 arg9 harg9 arg10 harg10 hc0 hc1 x1 x3 x4 x5 x9 x10).1 = k0_pay5 (stepOf i x9 x10 x3) (scaleOf x1) x4 x5 := by
  unfold runC
  dsimp only
  sl_unfold_words
  rw [View.canon_unit_zero hz, View.readCov_unit_zero (S := S16x22016) _ hz]
  simp only [View.readAt_eq_ld, harg1.read_unread, harg3.read_unread, harg4.read_unread, harg5.read_unread, harg9.read_unread, harg10.read_unread, View.ld_unit_zero (S := S16x22016) hz, View.ld_unit_zero (S := S256x22016) hz, View.ld_unit_zero (S := S1x22016) hz, View.ld_unit_zero (S := S1) hz1, ld_first]
  rfl

/-- Case B: the accumulator after a middle point. -/
theorem outB_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) :
    View.canon (runB c i arg1 harg1 arg2 harg2 arg3 harg3 arg4 harg4 arg5 harg5 arg6 harg6 arg7 harg7 arg8 harg8 arg9 harg9 arg10 harg10 hc0 hc1 x3 x9 x10).1 = stepOf i x9 x10 x3 := by
  unfold runB
  dsimp only
  sl_unfold_words
  rw [View.canon_unit_zero hz]
  simp only [View.readAt_eq_ld, harg3.read_unread, harg9.read_unread, harg10.read_unread, View.ld_unit_zero (S := S16x22016) hz, View.ld_unit_zero (S := S256x22016) hz]
  rfl

/-- Case A: the codes block. -/
theorem outA_7 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).1 = codesOf x1 x2 := by
  unfold runA
  dsimp only
  sl_unfold_words
  rw [View.canon_unit_zero hz]
  simp only [View.readAt_eq_ld, harg1.read_unread, harg2.read_unread, View.ld_unit_zero (S := S16x4096) hz, View.ld_unit_zero (S := S1) hz1, ld_first]
  rfl

/-- Case A: the scale's block. -/
theorem outA_8 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.1 = x1 := by
  unfold runA
  dsimp only
  sl_unfold_words
  rw [View.canon_unit_zero hz1]
  simp only [View.readAt_eq_ld, harg1.read_unread, View.ld_unit_zero (S := S1) hz1, ld_first]
  exact funext fun j => (ld_first x1 j).symm

/-- One stored piece of the kept codes: a slice of 256 columns, given a leading unit axis, is the kept block. -/
theorem keep_piece (q : Vec F S16x4096 .fp8e4m3) (k o : Nat) (ho : o = 256 * k)
    (inb : ∀ a, (![k, 0, 0] : Fin 3 → Nat) a + S1x16x256.size a ≤ S16x16x256.size a)
    (h : S16x4096.Slices ![0, o] S16x256) (hs : S16x256.ShapeCasts S1x16x256) (x : S1x16x256.Idx) :
    shapeCast S1x16x256 (extractStridedSlice S16x256 ![0, o] q h) hs x
      = keep q ((Rect.unit (s := S16x16x256) ![k, 0, 0] S1x16x256.size inb).emb x) := by
  subst ho
  have h0 : (x 0).val < 1 := (x 0).isLt
  refine (shapeCast_addUnit_apply _ _ _ x).trans ?_
  refine (extractStridedSlice_apply _ _ _ _ (ix2 (x 1) ⟨256 * k + (x 2).val, ?_⟩) ?_).trans ?_
  · have := inb 0
    have hk : k + 1 ≤ 16 := this
    have h2 : (x 2).val < 256 := (x 2).isLt
    show _ < 4096
    omega
  · intro a
    match a with
    | ⟨0, _⟩ => show (x 1).val = 0 + (x 1).val; omega
    | ⟨1, _⟩ => rfl
  · refine congrArg q (funext fun a => Fin.ext ?_)
    match a with
    | ⟨0, _⟩ => show (x 1).val = 0 + 1 * (x 1).val; omega
    | ⟨1, _⟩ => show 256 * k + (x 2).val = 256 * (k + 1 * (x 0).val) + (0 + 1 * (x 2).val); omega

/-- Sixteen pieces, one per kept block, leave the kept codes. -/
theorem canon_keep (q : Vec F S16x4096 .fp8e4m3) (L : List (View.Piece (Elt F) S16x16x256 .fp8e4m3))
    (hL : ∀ p ∈ L, ∀ x : p.1.shape.Idx, p.2 x = keep q (p.1.emb x)) (hc : ∀ y, ∃ p ∈ L, y ∈ p.1.set) :
    View.canon L = keep q := funext fun y => View.canon_apply_of_pieces (keep q) L hL y (hc y)

/-- The sixteen stores of the kept codes, the last first. -/
noncomputable def keptPieces (c : F .f32) (v : FVec F S16x4096 .f32) : List (View.Piece (Elt F) S16x16x256 .fp8e4m3) :=
  [⟨Rect.unit (s := S16x16x256) ![15, 0, 0] S1x16x256.size inb_S16x16x256_S1x16x256_15_0_0, k0_pay2 (k0_pay11 c v)⟩,
   ⟨Rect.unit (s := S16x16x256) ![14, 0, 0] S1x16x256.size inb_S16x16x256_S1x16x256_14_0_0, k0_pay1 (k0_pay27 (k0_pay11 c v))⟩,
   ⟨Rect.unit (s := S16x16x256) ![13, 0, 0] S1x16x256.size inb_S16x16x256_S1x16x256_13_0_0, k0_pay26 (k0_pay11 c v)⟩,
   ⟨Rect.unit (s := S16x16x256) ![12, 0, 0] S1x16x256.size inb_S16x16x256_S1x16x256_12_0_0, k0_pay25 (k0_pay11 c v)⟩,
   ⟨Rect.unit (s := S16x16x256) ![11, 0, 0] S1x16x256.size inb_S16x16x256_S1x16x256_11_0_0, k0_pay24 (k0_pay11 c v)⟩,
   ⟨Rect.unit (s := S16x16x256) ![10, 0, 0] S1x16x256.size inb_S16x16x256_S1x16x256_10_0_0, k0_pay23 (k0_pay11 c v)⟩,
   ⟨Rect.unit (s := S16x16x256) ![9, 0, 0] S1x16x256.size inb_S16x16x256_S1x16x256_9_0_0, k0_pay22 (k0_pay11 c v)⟩,
   ⟨Rect.unit (s := S16x16x256) ![8, 0, 0] S1x16x256.size inb_S16x16x256_S1x16x256_8_0_0, k0_pay21 (k0_pay11 c v)⟩,
   ⟨Rect.unit (s := S16x16x256) ![7, 0, 0] S1x16x256.size inb_S16x16x256_S1x16x256_7_0_0, k0_pay20 (k0_pay11 c v)⟩,
   ⟨Rect.unit (s := S16x16x256) ![6, 0, 0] S1x16x256.size inb_S16x16x256_S1x16x256_6_0_0, k0_pay19 (k0_pay18 c v)⟩,
   ⟨Rect.unit (s := S16x16x256) ![5, 0, 0] S1x16x256.size inb_S16x16x256_S1x16x256_5_0_0, k0_pay17 c v⟩,
   ⟨Rect.unit (s := S16x16x256) ![4, 0, 0] S1x16x256.size inb_S16x16x256_S1x16x256_4_0_0, k0_pay16 c v⟩,
   ⟨Rect.unit (s := S16x16x256) ![3, 0, 0] S1x16x256.size inb_S16x16x256_S1x16x256_3_0_0, k0_pay15 c v⟩,
   ⟨Rect.unit (s := S16x16x256) ![2, 0, 0] S1x16x256.size inb_S16x16x256_S1x16x256_2_0_0, k0_pay14 c v⟩,
   ⟨Rect.unit (s := S16x16x256) ![1, 0, 0] S1x16x256.size inb_S16x16x256_S1x16x256_1_0_0, k0_pay13 c v⟩,
   ⟨Rect.unit (s := S16x16x256) ![0, 0, 0] S1x16x256.size inb_S16x16x256_S1x16x256_0_0_0, k0_pay12 c v⟩]

/-- Together they leave the kept codes. -/
theorem canon_keptPieces (c : F .f32) (v : FVec F S16x4096 .f32) : View.canon (keptPieces c v) = keep (k0_pay11 c v) := by
  refine canon_keep _ _ ?_ (View.cover_of_tiledL _ S1x16x256.size (by sl_kernel_rfl))
  generalize hq : k0_pay11 c v = q
  unfold keptPieces
  intro p hp
  simp only [List.mem_cons, List.not_mem_nil, or_false] at hp
  rcases hp with rfl | rfl | rfl | rfl | rfl | rfl | rfl | rfl | rfl | rfl | rfl | rfl | rfl | rfl | rfl | rfl
  all_goals
    intro x
    simp only [k0_pay1, k0_pay2, k0_pay12, k0_pay13, k0_pay14, k0_pay15, k0_pay16, k0_pay17, k0_pay18, k0_pay19, k0_pay20, k0_pay21, k0_pay22, k0_pay23, k0_pay24, k0_pay25, k0_pay26, k0_pay27, hq]
    refine keep_piece q _ _ ?_ _ _ _ x
    rfl

/-- Case A: the kept codes. -/
theorem outA_10 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.2.2.1 = keep (codesOf x1 x2) := by
  unfold runA
  dsimp only
  sl_unfold_words
  simp only [View.readAt_eq_ld, harg1.read_unread, harg2.read_unread, View.ld_unit_zero (S := S16x4096) hz, View.ld_unit_zero (S := S1) hz1, ld_first]
  exact canon_keptPieces _ _

/-- A load of one kept block after stores that leave `q`. -/
theorem readCov_slab (i : grid0.Coords) (v : View sig .tc .vmem S16x16x256 .fp8e4m3) (L : List (View.Piece (Elt F) S16x16x256 .fp8e4m3))
    (q : Vec F S16x16x256 .fp8e4m3) (hL : View.canon L = q) :
    v.readCov L (Rect.unit (s := S16x16x256) (k0_off1 i) S1x16x256.size (k0_off1_inb i)).toLoadRect = slab i q := by
  subst hL
  exact View.readCov_eq_canon' _ _ _

/-- Case A: the accumulator after the first point, from the cleared one. -/
theorem outA_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) :
    View.canon (runA c i arg1 harg1 arg2 harg2 arg3 harg3 arg4 harg4 arg5 harg5 arg6 harg6 arg7 harg7 arg8 harg8 arg9 harg9 arg10 harg10 hc0 hc1 x1 x2 x3).2.2.1 = stepOf i k0_pay3 (keep (codesOf x1 x2)) x3 := by
  unfold runA
  dsimp only
  sl_unfold_words
  rw [View.canon_cons_unit_zero (S := S16x22016) hz, View.readCov_unit_zero (S := S16x22016) _ hz]
  have hw : View.readAt (Elt F) arg3.view (Rect.unit (s := S256x22016) ![0, 0] S256x22016.size inb_S256x22016_S256x22016_0_0).toLoadRect (harg3.unread x3) = x3 := by
    simp only [View.readAt_eq_ld, harg3.read_unread, View.ld_unit_zero (S := S256x22016) hz]
  refine congrArg₂ (fun k w => k0_pay4 k0_pay3 k w) (readCov_slab i _ _ _ ?_) hw
  simp only [View.readAt_eq_ld, harg1.read_unread, harg2.read_unread, View.ld_unit_zero (S := S16x4096) hz, View.ld_unit_zero (S := S1) hz1, ld_first]
  exact canon_keptPieces _ _

end Cert.KernelIdeal.Body

end
-- ==== Proof.BlockRead.lean ====
/-
  What each buffer the body stores into holds after the run, in each of the three cases: the stored pieces cover the
  buffer, so its contents are the pieces' own (`BlockValue`), whatever it held before.
-/
module

public import proofs.«01_k».proof.Proof.BlockValue

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Case A: what `arg7` holds. -/
theorem readA_7 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg7.view.read (Elt F) (arg7.view.writes (Elt F) f (runA c i arg1 harg1 arg2 harg2 arg3 harg3 arg4 harg4 arg5 harg5 arg6 harg6 arg7 harg7 arg8 harg8 arg9 harg9 arg10 harg10 hc0 hc1 x1 x2 x3).1) = codesOf x1 x2 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).1 S16x4096.size (by sl_kernel_rfl))).trans
    (outA_7 c i arg1 harg1 arg2 harg2 arg3 harg3 arg4 harg4 arg5 harg5 arg6 harg6 arg7 harg7 arg8 harg8 arg9 harg9 arg10 harg10 hc0 hc1 x1 x2 x3)

/-- Case A: what `arg8` holds. -/
theorem readA_8 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg8.view.read (Elt F) (arg8.view.writes (Elt F) f (runA c i arg1 harg1 arg2 harg2 arg3 harg3 arg4 harg4 arg5 harg5 arg6 harg6 arg7 harg7 arg8 harg8 arg9 harg9 arg10 harg10 hc0 hc1 x1 x2 x3).2.1) = x1 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.1 S1.size (by sl_kernel_rfl))).trans
    (outA_8 c i arg1 harg1 arg2 harg2 arg3 harg3 arg4 harg4 arg5 harg5 arg6 harg6 arg7 harg7 arg8 harg8 arg9 harg9 arg10 harg10 hc0 hc1 x1 x2 x3)

/-- Case A: what `arg9` holds. -/
theorem readA_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg9.view.read (Elt F) (arg9.view.writes (Elt F) f (runA c i arg1 harg1 arg2 harg2 arg3 harg3 arg4 harg4 arg5 harg5 arg6 harg6 arg7 harg7 arg8 harg8 arg9 harg9 arg10 harg10 hc0 hc1 x1 x2 x3).2.2.1) = stepOf i k0_pay3 (keep (codesOf x1 x2)) x3 :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.2.1 S16x22016.size (by sl_kernel_rfl))).trans
    (outA_9 c i arg1 harg1 arg2 harg2 arg3 harg3 arg4 harg4 arg5 harg5 arg6 harg6 arg7 harg7 arg8 harg8 arg9 harg9 arg10 harg10 hc0 hc1 x1 x2 x3)

/-- Case A: what `arg10` holds. -/
theorem readA_10 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : cond0_0 i) (hc1 : ¬cond0_1 i)
    (x1 : Vec F S1 .f32) (x2 : Vec F S16x4096 .bf16) (x3 : Vec F S256x22016 .fp8e4m3) (f) :
    arg10.view.read (Elt F) (arg10.view.writes (Elt F) f (runA c i arg1 harg1 arg2 harg2 arg3 harg3 arg4 harg4 arg5 harg5 arg6 harg6 arg7 harg7 arg8 harg8 arg9 harg9 arg10 harg10 hc0 hc1 x1 x2 x3).2.2.2.1) = keep (codesOf x1 x2) :=
  (View.read_writes_eq_canon _ _ _ (View.cover_of_tiledL (runA c i arg1 harg1 arg2 harg2 arg3 harg3 arg4 harg4 arg5 harg5 arg6 harg6 arg7 harg7 arg8 harg8 arg9 harg9 arg10 harg10 hc0 hc1 x1 x2 x3).2.2.2.1 S1x16x256.size (by sl_kernel_rfl))).trans
    (outA_10 c i arg1 harg1 arg2 harg2 arg3 harg3 arg4 harg4 arg5 harg5 arg6 harg6 arg7 harg7 arg8 harg8 arg9 harg9 arg10 harg10 hc0 hc1 x1 x2 x3)

/-- Case B: what `arg9` holds. -/
theorem readB_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : ¬cond0_1 i)
    (x3 : Vec F S256x22016 .fp8e4m3) (x9 : Vec F S16x22016 .f32) (x10 : Vec F S16x16x256 .fp8e4m3) (f) :
    arg9.view.read (Elt F) (arg9.view.writes (Elt F) f (runB c i arg1 harg1 arg2 harg2 arg3 harg3 arg4 harg4 arg5 harg5 arg6 harg6 arg7 harg7 arg8 harg8 arg9 harg9 arg10 harg10 hc0 hc1 x3 x9 x10).1) = stepOf i x9 x10 x3 :=
  (View.read_writes_eq_canon _ _ _ (View.cover_of_tiledL (runB c i arg1 harg1 arg2 harg2 arg3 harg3 arg4 harg4 arg5 harg5 arg6 harg6 arg7 harg7 arg8 harg8 arg9 harg9 arg10 harg10 hc0 hc1 x3 x9 x10).1 S16x22016.size (by sl_kernel_rfl))).trans
    (outB_9 c i arg1 harg1 arg2 harg2 arg3 harg3 arg4 harg4 arg5 harg5 arg6 harg6 arg7 harg7 arg8 harg8 arg9 harg9 arg10 harg10 hc0 hc1 x3 x9 x10)

/-- Case C: what `arg6` holds. -/
theorem readC_6 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) (f) :
    arg6.view.read (Elt F) (arg6.view.writes (Elt F) f (runC c i arg1 harg1 arg2 harg2 arg3 harg3 arg4 harg4 arg5 harg5 arg6 harg6 arg7 harg7 arg8 harg8 arg9 harg9 arg10 harg10 hc0 hc1 x1 x3 x4 x5 x9 x10).1) = k0_pay5 (stepOf i x9 x10 x3) (scaleOf x1) x4 x5 :=
  (View.read_writes_eq_canon _ _ _ (View.cover_of_tiledL (runC c i arg1 harg1 arg2 harg2 arg3 harg3 arg4 harg4 arg5 harg5 arg6 harg6 arg7 harg7 arg8 harg8 arg9 harg9 arg10 harg10 hc0 hc1 x1 x3 x4 x5 x9 x10).1 S16x22016.size (by sl_kernel_rfl))).trans
    (outC_6 c i arg1 harg1 arg2 harg2 arg3 harg3 arg4 harg4 arg5 harg5 arg6 harg6 arg7 harg7 arg8 harg8 arg9 harg9 arg10 harg10 hc0 hc1 x1 x3 x4 x5 x9 x10)

/-- Case C: what `arg9` holds. -/
theorem readC_9 (c : Dev nD) (i : grid0.Coords) (arg1 : Memref sig .tc .smem S1 .f32) (harg1 : arg1.IsWhole) (arg2 : Memref sig .tc .vmem S16x4096 .bf16) (harg2 : arg2.IsWhole) (arg3 : Memref sig .tc .vmem S256x22016 .fp8e4m3) (harg3 : arg3.IsWhole) (arg4 : Memref sig .tc .vmem S1x22016 .f32) (harg4 : arg4.IsWhole) (arg5 : Memref sig .tc .vmem S1x22016 .f32) (harg5 : arg5.IsWhole) (arg6 : Memref sig .tc .vmem S16x22016 .bf16) (harg6 : arg6.IsWhole) (arg7 : Memref sig .tc .vmem S16x4096 .fp8e4m3) (harg7 : arg7.IsWhole) (arg8 : Memref sig .tc .smem S1 .f32) (harg8 : arg8.IsWhole) (arg9 : Memref sig .tc .vmem S16x22016 .f32) (harg9 : arg9.IsWhole) (arg10 : Memref sig .tc .vmem S16x16x256 .fp8e4m3) (harg10 : arg10.IsWhole) (hc0 : ¬cond0_0 i) (hc1 : cond0_1 i)
    (x1 : Vec F S1 .f32) (x3 : Vec F S256x22016 .fp8e4m3) (x4 : Vec F S1x22016 .f32) (x5 : Vec F S1x22016 .f32) (x9 : Vec F S16x22016 .f32) (x10 : Vec F S16x16x256 .fp8e4m3) (f) :
    arg9.view.read (Elt F) (arg9.view.writes (Elt F) f (runC c i arg1 harg1 arg2 harg2 arg3 harg3 arg4 harg4 arg5 harg5 arg6 harg6 arg7 harg7 arg8 harg8 arg9 harg9 arg10 harg10 hc0 hc1 x1 x3 x4 x5 x9 x10).2.1) = stepOf i x9 x10 x3 :=
  (View.read_writes_eq_canon _ _ _ (View.cover_of_tiledL (runC c i arg1 harg1 arg2 harg2 arg3 harg3 arg4 harg4 arg5 harg5 arg6 harg6 arg7 harg7 arg8 harg8 arg9 harg9 arg10 harg10 hc0 hc1 x1 x3 x4 x5 x9 x10).2.1 S16x22016.size (by sl_kernel_rfl))).trans
    (outC_9 c i arg1 harg1 arg2 harg2 arg3 harg3 arg4 harg4 arg5 harg5 arg6 harg6 arg7 harg7 arg8 harg8 arg9 harg9 arg10 harg10 hc0 hc1 x1 x3 x4 x5 x9 x10)

end Cert.KernelIdeal.Body

end
-- ==== Proof.Dats.lean ====
/-
  The pipeline's proof data at the sixteen grid points, and the body's obligation: the accumulator after each point, the
  kept codes, the three outputs; the launch's run from it.
-/
module

public import proofs.«01_k».proof.Proof.BlockRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes of the input, computed at the first point. -/
def codesAt (c : Dev nD) : Vec F S16x4096 .fp8e4m3 := codesOf (iblk m c 0 t0_0) (iblk m c 1 t0_0)

/-- The kept codes. -/
def keptAt (c : Dev nD) : Vec F S16x16x256 .fp8e4m3 := keep (codesAt m c)

/-- The accumulator after point `n`. -/
def accAt (c : Dev nD) : (n : ℕ) → n < cfg0.N → Vec F S16x22016 .f32
  | 0, h => stepOf (grid0.coords ⟨0, h⟩) k0_pay3 (keptAt m c) (iblk m c 2 ⟨0, h⟩)
  | n + 1, h => stepOf (grid0.coords ⟨n + 1, h⟩) (accAt c n (Nat.lt_of_succ_lt h)) (keptAt m c) (iblk m c 2 ⟨n + 1, h⟩)

theorem accAt_zero (c : Dev nD) (t : Fin cfg0.N) (ht : t.val = 0) :
    accAt m c t.val t.isLt = stepOf (grid0.coords t) k0_pay3 (keptAt m c) (iblk m c 2 t) := by
  obtain ⟨n, hn⟩ := t
  dsimp only at ht
  subst ht
  rfl

theorem accAt_pos (c : Dev nD) (t : Fin cfg0.N) (ht : t.val ≠ 0) :
    accAt m c t.val t.isLt = stepOf (grid0.coords t) (accAt m c (t.val - 1) (Nat.lt_of_le_of_lt (Nat.sub_le _ _) t.isLt)) (keptAt m c) (iblk m c 2 t) := by
  obtain ⟨n, hn⟩ := t
  cases n with
  | zero => exact absurd rfl ht
  | succ n => rfl

/-- The result block at point `t`: only the last point's is stored. -/
def yAt (c : Dev nD) (t : Fin cfg0.N) : Vec F S16x22016 .bf16 :=
  k0_pay5 (accAt m c t.val t.isLt) (scaleOf (iblk m c 0 t)) (iblk m c 3 t) (iblk m c 4 t)

/-- The invariant before position `n`: before the first point the launch's (both scratch buffers at anything); afterwards
    the accumulator and the kept codes. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (keptAt m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (keptAt m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (keptAt m c)) ∗ (∃ r, prngReg c r)) := by
  cases n with
  | zero => exact absurd rfl hz
  | succ n => rfl

/-- The proof data: the arrays as the region finds them; after each point the inputs' buffers at their blocks, the result's
    at `yAt`, the codes' at the codes, the scale's at the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => codesAt m c
    | ⟨7, _⟩ => iblk m c 0 t0_0
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = codesAt m c := by dsimp only [dats]
theorem after0_7 (c : Dev nD) (t : Fin cfg0.N) : (dats m 0 c).after 7 t = iblk m c 0 t0_0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The points where the outputs are stored, left alone, and written back -/

/-- The result is left alone except at the last point. -/
theorem idle5 (t : Fin cfg0.N) (h1 : ¬t.val % 16 = 15) : cfg0.idle 5 (grid0.coords t) = true := by
  have h : ¬k0_cond2 (grid0.coords t) = 1#1 := fun h => h1 ((hcond0_1 t).mp h)
  show (!(k0_cond2 (grid0.coords t) == 1#1)) = true
  simp [h]
theorem live5 (t : Fin cfg0.N) (h1 : t.val % 16 = 15) : cfg0.idle 5 (grid0.coords t) = false := by
  have h : k0_cond2 (grid0.coords t) = 1#1 := (hcond0_1 t).mpr h1
  show (!(k0_cond2 (grid0.coords t) == 1#1)) = false
  simp [h]
theorem idle6 (t : Fin cfg0.N) (h0 : ¬t.val % 16 = 0) : cfg0.idle 6 (grid0.coords t) = true := by
  have h : ¬k0_cond1 (grid0.coords t) = 1#1 := fun h => h0 ((hcond0_0 t).mp h)
  show (!(k0_cond1 (grid0.coords t) == 1#1)) = true
  simp [h]
theorem live6 (t : Fin cfg0.N) (h0 : t.val % 16 = 0) : cfg0.idle 6 (grid0.coords t) = false := by
  have h : k0_cond1 (grid0.coords t) = 1#1 := (hcond0_0 t).mpr h0
  show (!(k0_cond1 (grid0.coords t) == 1#1)) = false
  simp [h]
theorem idle7 (t : Fin cfg0.N) (h0 : ¬t.val % 16 = 0) : cfg0.idle 7 (grid0.coords t) = true := by
  have h : ¬k0_cond1 (grid0.coords t) = 1#1 := fun h => h0 ((hcond0_0 t).mp h)
  show (!(k0_cond1 (grid0.coords t) == 1#1)) = true
  simp [h]
theorem live7 (t : Fin cfg0.N) (h0 : t.val % 16 = 0) : cfg0.idle 7 (grid0.coords t) = false := by
  have h : k0_cond1 (grid0.coords t) = 1#1 := (hcond0_0 t).mpr h0
  show (!(k0_cond1 (grid0.coords t) == 1#1)) = false
  simp [h]
theorem noflush5 (t : Fin cfg0.N) (h1 : ¬t.val % 16 = 15) : (cfg0.win 5).flush t = false :=
  Bool.eq_false_iff.mpr fun h => h1 ((flush0_5 t).mp h)
theorem noflush6 (t : Fin cfg0.N) (h1 : ¬t.val % 16 = 15) : (cfg0.win 6).flush t = false :=
  Bool.eq_false_iff.mpr fun h => h1 ((flush0_6 t).mp h)
theorem noflush7 (t : Fin cfg0.N) (h1 : ¬t.val % 16 = 15) : (cfg0.win 7).flush t = false :=
  Bool.eq_false_iff.mpr fun h => h1 ((flush0_7 t).mp h)

/-- After the first point the buffer of output 6 holds what the first point stored, at every later point. -/
theorem before6_succ (c : Dev nD) : ∀ (n : ℕ) (h : n + 1 < cfg0.N) (d), (dats m 0 c).before 6 ⟨n + 1, h⟩ d = codesAt m c := by
  intro n
  induction n with
  | zero =>
    intro h d
    rw [(dats m 0 c).before_of_pos 6 ⟨0 + 1, h⟩ (by dsimp only; omega) rfl d]
    rw [if_neg (by rw [noflush6 _ (by dsimp only; omega)]; exact Bool.false_ne_true)]
    unfold Dat.left
    rw [live6 _ (Nat.zero_mod 16)]
    show (dats m 0 c).kept 6 _ d = _
    unfold Dat.kept
    rw [after0_6]
    rfl
  | succ n ih =>
    intro h d
    have hN : cfg0.N = 16 := N_0
    rw [(dats m 0 c).before_of_pos 6 ⟨n + 1 + 1, h⟩ (by dsimp only; omega) rfl d]
    rw [if_neg (by rw [noflush6 _ (by dsimp only; omega)]; exact Bool.false_ne_true)]
    unfold Dat.left
    rw [idle6 _ (by dsimp only; omega)]
    exact ih (Nat.lt_of_succ_lt h) d

theorem before6_pos (c : Dev nD) (t : Fin cfg0.N) (ht : t.val ≠ 0) (d) : (dats m 0 c).before 6 t d = codesAt m c := by
  obtain ⟨n, hn⟩ := t
  cases n with
  | zero => exact absurd rfl ht
  | succ n => exact before6_succ m c n hn d

/-- After the first point the buffer of output 7 holds what the first point stored, at every later point. -/
theorem before7_succ (c : Dev nD) : ∀ (n : ℕ) (h : n + 1 < cfg0.N) (d), (dats m 0 c).before 7 ⟨n + 1, h⟩ d = iblk m c 0 t0_0 := by
  intro n
  induction n with
  | zero =>
    intro h d
    rw [(dats m 0 c).before_of_pos 7 ⟨0 + 1, h⟩ (by dsimp only; omega) rfl d]
    rw [if_neg (by rw [noflush7 _ (by dsimp only; omega)]; exact Bool.false_ne_true)]
    unfold Dat.left
    rw [live7 _ (Nat.zero_mod 16)]
    show (dats m 0 c).kept 7 _ d = _
    unfold Dat.kept
    rw [after0_7]
    rfl
  | succ n ih =>
    intro h d
    have hN : cfg0.N = 16 := N_0
    rw [(dats m 0 c).before_of_pos 7 ⟨n + 1 + 1, h⟩ (by dsimp only; omega) rfl d]
    rw [if_neg (by rw [noflush7 _ (by dsimp only; omega)]; exact Bool.false_ne_true)]
    unfold Dat.left
    rw [idle7 _ (by dsimp only; omega)]
    exact ih (Nat.lt_of_succ_lt h) d

theorem before7_pos (c : Dev nD) (t : Fin cfg0.N) (ht : t.val ≠ 0) (d) : (dats m 0 c).before 7 t d = iblk m c 0 t0_0 := by
  obtain ⟨n, hn⟩ := t
  cases n with
  | zero => exact absurd rfl ht
  | succ n => exact before7_succ m c n hn d

end Cert.KernelIdeal.Body

end
-- ==== Proof.Body.lean ====
/-
  The body's obligation at every grid point, by the three cases; the launch's run and the frame from it.
-/
module

public import proofs.«01_k».proof.Proof.Dats
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves5_live (c : Dev nD) (t : Fin cfg0.N) (h1 : t.val % 16 = 15) :
    (dats m 0 c).leavesExact 5 t = owns (c : Thread nD τ) (ms0_5 t) fullShare (yAt m c t) := by
  unfold Dat.leavesExact; rw [live5 t h1]; dsimp only; rw [after0_5]
theorem leaves5_idle (c : Dev nD) (t : Fin cfg0.N) (h1 : ¬t.val % 16 = 15) :
    (dats m 0 c).leavesExact 5 t = iprop(∃ d, owns (c : Thread nD τ) (ms0_5 t) fullShare ((dats m 0 c).before 5 t d)) := by
  unfold Dat.leavesExact; rw [idle5 t h1, noflush5 t h1]
theorem leaves6_live (c : Dev nD) (t : Fin cfg0.N) (h0 : t.val % 16 = 0) :
    (dats m 0 c).leavesExact 6 t = owns (c : Thread nD τ) (ms0_6 t) fullShare (codesAt m c) := by
  unfold Dat.leavesExact; rw [live6 t h0]; dsimp only; rw [after0_6]
theorem leaves6_idle (c : Dev nD) (t : Fin cfg0.N) (h0 : ¬t.val % 16 = 0) (h1 : ¬t.val % 16 = 15) :
    (dats m 0 c).leavesExact 6 t = iprop(∃ d, owns (c : Thread nD τ) (ms0_6 t) fullShare ((dats m 0 c).before 6 t d)) := by
  unfold Dat.leavesExact; rw [idle6 t h0, noflush6 t h1]
theorem leaves6_last (c : Dev nD) (t : Fin cfg0.N) (h0 : ¬t.val % 16 = 0) (h1 : t.val % 16 = 15) :
    (dats m 0 c).leavesExact 6 t = owns (c : Thread nD τ) (ms0_6 t) fullShare (codesAt m c) := by
  unfold Dat.leavesExact; rw [idle6 t h0, (flush0_6 t).mpr h1]; dsimp only; rw [after0_6]
theorem leaves7_live (c : Dev nD) (t : Fin cfg0.N) (h0 : t.val % 16 = 0) :
    (dats m 0 c).leavesExact 7 t = owns (c : Thread nD τ) (ms0_7 t) fullShare ((iblk m c 0 t0_0)) := by
  unfold Dat.leavesExact; rw [live7 t h0]; dsimp only; rw [after0_7]
theorem leaves7_idle (c : Dev nD) (t : Fin cfg0.N) (h0 : ¬t.val % 16 = 0) (h1 : ¬t.val % 16 = 15) :
    (dats m 0 c).leavesExact 7 t = iprop(∃ d, owns (c : Thread nD τ) (ms0_7 t) fullShare ((dats m 0 c).before 7 t d)) := by
  unfold Dat.leavesExact; rw [idle7 t h0, noflush7 t h1]
theorem leaves7_last (c : Dev nD) (t : Fin cfg0.N) (h0 : ¬t.val % 16 = 0) (h1 : t.val % 16 = 15) :
    (dats m 0 c).leavesExact 7 t = owns (c : Thread nD τ) (ms0_7 t) fullShare ((iblk m c 0 t0_0)) := by
  unfold Dat.leavesExact; rw [idle7 t h0, (flush0_7 t).mpr h1]; dsimp only; rw [after0_7]

set_option maxHeartbeats 9600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 16 = 0
  · by_cases h1 : t.val % 16 = 15
    · exfalso; omega
    · skip
      have ht : t = t0_0 := Fin.ext (show t.val = 0 by omega)
      rw [PhiS_castSucc m c t, PhiS_zero m c _ _ (by omega), PhiA0_eq, accAt_zero m c t (by omega)]
      rw [leaves5_idle m c t h1, leaves6_live m c t h0, leaves7_live m c t h0]
      subst ht
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t0_0) _ _ _ _ _ _ _ _ _ _ _ _ _ _ _ _ _ _ _ _ ((hcond0_0 t0_0).mpr h0) (fun h => h1 ((hcond0_1 t0_0).mp h)) (iblk m c 0 t0_0) (iblk m c 1 t0_0) (iblk m c 2 t0_0)).2.2.2.2 Set.univ _)
      isplitl [H0]; · iexact H0
      isplitl [H1]; · iexact H1
      isplitl [H2]; · iexact H2
      isplitl [H6]; · iexists _; iexact H6
      isplitl [H7]; · iexists _; iexact H7
      isplitl [HS0]; · iexact HS0
      isplitl [HS1]; · iexact HS1
      iintro ⟨H0, H1, H2, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact readA_9 c _ _ _ _ _ _ _ _ _ _ _ _ _ _ _ _ _ _ _ _ _ _ _ _ _ _ _
          unfold owns; iexists _; isplitr
          swap; · iexact HS1
          ipureintro; exact readA_10 c _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; iexact H5
      isplitl [H6]
      · unfold owns; iexists _; isplitr
        swap; · iexact H6
        ipureintro; exact readA_7 c _ _ _ _ _ _ _ _ _ _ _ _ _ _ _ _ _ _ _ _ _ _ _ _ _ _ _
      unfold owns; iexists _; isplitr
      swap; · iexact H7
      ipureintro; exact readA_8 c _ _ _ _ _ _ _ _ _ _ _ _ _ _ _ _ _ _ _ _ _ _ _ _ _ _ _
  · by_cases h1 : t.val % 16 = 15
    · skip
      rw [PhiS_castSucc m c t, PhiS_pos m c _ _ (by omega)]
      rw [leaves5_live m c t h1, leaves6_last m c t h0 h1, leaves7_last m c t h0 h1]
      unfold yAt
      rw [accAt_pos m c t (by omega)]
      simp only [before6_pos m c t (by omega), before7_pos m c t (by omega)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) _ _ _ _ _ _ _ _ _ _ _ _ _ _ _ _ _ _ _ _ (fun h => h0 ((hcond0_0 t).mp h)) ((hcond0_1 t).mpr h1) (iblk m c 0 t) (iblk m c 2 t) (iblk m c 3 t) (iblk m c 4 t) _ _).2.2 Set.univ _)
      isplitl [H0]; · iexact H0
      isplitl [H2]; · iexact H2
      isplitl [H3]; · iexact H3
      isplitl [H4]; · iexact H4
      isplitl [H5]; · iexists _; iexact H5
      isplitl [HS0]; · iexact HS0
      isplitl [HS1]; · iexact HS1
      iintro ⟨H0, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact readC_9 c _ _ _ _ _ _ _ _ _ _ _ _ _ _ _ _ _ _ _ _ _ _ _ _ _ _ _ _ _ _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact readC_6 c _ _ _ _ _ _ _ _ _ _ _ _ _ _ _ _ _ _ _ _ _ _ _ _ _ _ _ _ _ _
      isplitl [H6]
      · iexact H6
      iexact H7
    · skip
      rw [PhiS_castSucc m c t, PhiS_pos m c _ _ (by omega), accAt_pos m c t (by omega)]
      rw [leaves5_idle m c t h1, leaves6_idle m c t h0 h1, leaves7_idle m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) _ _ _ _ _ _ _ _ _ _ _ _ _ _ _ _ _ _ _ _ (fun h => h0 ((hcond0_0 t).mp h)) (fun h => h1 ((hcond0_1 t).mp h)) (iblk m c 2 t) _ _).2 Set.univ _)
      isplitl [H2]; · iexact H2
      isplitl [HS0]; · iexact HS0
      isplitl [HS1]; · iexact HS1
      iintro ⟨H2, ⟨%es0, HS0⟩, HS1⟩
      isplitl [HS0 HS1 Hg]
      · isplitl [HS0 HS1]
        · isplitl [HS0]
          · unfold owns; iexists _; isplitr
            swap; · iexact HS0
            ipureintro; exact readB_9 c _ _ _ _ _ _ _ _ _ _ _ _ _ _ _ _ _ _ _ _ _ _ _ _ _ _ _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; iexact H5
      isplitl [H6]
      · iexists _; iexact H6
      iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch's run: every array at what the proof data says, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.KernelFinal.lean ====
/-
  What the kernel's arrays hold after the run: each output is written back once, after the last point, and its one block is
  the whole array. And what the inputs' blocks are: four are whole arrays, the weights' block at point `t` is rows `256 t` on.
-/
module

public import proofs.«01_k».proof.Proof.Body
public import Idealize.ShloMosaic.Lib.Pipeline.Value
public import Idealize.ShloMosaic.Lib.ValueIdx

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

/-- Output 5's array after the run. -/
abbrev res5 (c : Dev nD) : Buf (Elt F) ((c : Thread nD τ).loc main_v3_0) := yAt m c t0_15

/-- Its one write-back writes it. -/
theorem flushed5 (c : Dev nD) (t : Fin cfg0.N) (hf : (cfg0.win 5).flush t = true) :
    (dats m 0 c).flushed 5 t = ((cfg0.win 5).blk t).view.read (Elt F) (res5 m c) := by
  have hN : cfg0.N = 16 := N_0
  have h3 : t.val = 15 := by have := (flush0_5 t).mp hf; have := t.isLt; omega
  obtain rfl : t = t0_15 := Fin.ext h3
  show (cfg0.win 5).cut (grid0.coords t0_15) ((dats m 0 c).after 5 t0_15) = _
  rw [after0_5]
  have hz' : (fun a => win0_5.index t0_15 a * main_v3_0.ty.shape.size a) = fun _ => 0 := funext fun a => by fin_cases a <;> decide
  exact (Memref.read_access_unit_zero (Elt F) main_v3_0 hz' (fun a => by rw [congrFun hz' a]; simp) (res5 m c)).symm

theorem final5 (c : Dev nD) : (dats m 0 c).arrAt 5 cfg0.N = res5 m c :=
  (dats m 0 c).arrAt_eq_of_cover 5 (res5 m c) (flushed5 m c) fun i =>
    ⟨t0_15, (flush0_5 t0_15).mpr rfl, by
      show i ∈ ((View.whole main_v3_0).slice (win0_5.rect t0_15)).set
      rw [View.set_slice_whole, Rect.mem_set_unit]
      intro a
      have h0 : (i 0 : Nat) < 16 := (i 0).isLt
      have h1 : (i 1 : Nat) < 22016 := (i 1).isLt
      match a with
      | ⟨0, _⟩ =>
        show win0_5.index t0_15 0 * win0_5.size 0 ≤ (i 0 : Nat) ∧ (i 0 : Nat) < win0_5.index t0_15 0 * win0_5.size 0 + win0_5.xsize (grid0.coords t0_15) 0
        rw [show win0_5.index t0_15 0 * win0_5.size 0 = 0 from by decide +kernel, show win0_5.xsize (grid0.coords t0_15) 0 = 16 from by decide +kernel]; omega
      | ⟨1, _⟩ =>
        show win0_5.index t0_15 1 * win0_5.size 1 ≤ (i 1 : Nat) ∧ (i 1 : Nat) < win0_5.index t0_15 1 * win0_5.size 1 + win0_5.xsize (grid0.coords t0_15) 1
        rw [show win0_5.index t0_15 1 * win0_5.size 1 = 0 from by decide +kernel, show win0_5.xsize (grid0.coords t0_15) 1 = 22016 from by decide +kernel]; omega⟩

/-- Output 6's array after the run. -/
abbrev res6 (c : Dev nD) : Buf (Elt F) ((c : Thread nD τ).loc main_v3_1) := codesAt m c

/-- Its one write-back writes it. -/
theorem flushed6 (c : Dev nD) (t : Fin cfg0.N) (hf : (cfg0.win 6).flush t = true) :
    (dats m 0 c).flushed 6 t = ((cfg0.win 6).blk t).view.read (Elt F) (res6 m c) := by
  have hN : cfg0.N = 16 := N_0
  have h3 : t.val = 15 := by have := (flush0_6 t).mp hf; have := t.isLt; omega
  obtain rfl : t = t0_15 := Fin.ext h3
  show (cfg0.win 6).cut (grid0.coords t0_15) ((dats m 0 c).after 6 t0_15) = _
  rw [after0_6]
  have hz' : (fun a => win0_6.index t0_15 a * main_v3_1.ty.shape.size a) = fun _ => 0 := funext fun a => by fin_cases a <;> decide
  exact (Memref.read_access_unit_zero (Elt F) main_v3_1 hz' (fun a => by rw [congrFun hz' a]; simp) (res6 m c)).symm

theorem final6 (c : Dev nD) : (dats m 0 c).arrAt 6 cfg0.N = res6 m c :=
  (dats m 0 c).arrAt_eq_of_cover 6 (res6 m c) (flushed6 m c) fun i =>
    ⟨t0_15, (flush0_6 t0_15).mpr rfl, by
      show i ∈ ((View.whole main_v3_1).slice (win0_6.rect t0_15)).set
      rw [View.set_slice_whole, Rect.mem_set_unit]
      intro a
      have h0 : (i 0 : Nat) < 16 := (i 0).isLt
      have h1 : (i 1 : Nat) < 4096 := (i 1).isLt
      match a with
      | ⟨0, _⟩ =>
        show win0_6.index t0_15 0 * win0_6.size 0 ≤ (i 0 : Nat) ∧ (i 0 : Nat) < win0_6.index t0_15 0 * win0_6.size 0 + win0_6.xsize (grid0.coords t0_15) 0
        rw [show win0_6.index t0_15 0 * win0_6.size 0 = 0 from by decide +kernel, show win0_6.xsize (grid0.coords t0_15) 0 = 16 from by decide +kernel]; omega
      | ⟨1, _⟩ =>
        show win0_6.index t0_15 1 * win0_6.size 1 ≤ (i 1 : Nat) ∧ (i 1 : Nat) < win0_6.index t0_15 1 * win0_6.size 1 + win0_6.xsize (grid0.coords t0_15) 1
        rw [show win0_6.index t0_15 1 * win0_6.size 1 = 0 from by decide +kernel, show win0_6.xsize (grid0.coords t0_15) 1 = 4096 from by decide +kernel]; omega⟩

/-- Output 7's array after the run. -/
abbrev res7 (c : Dev nD) : Buf (Elt F) ((c : Thread nD τ).loc main_v3_2) := iblk m c 0 t0_0

/-- Its one write-back writes it. -/
theorem flushed7 (c : Dev nD) (t : Fin cfg0.N) (hf : (cfg0.win 7).flush t = true) :
    (dats m 0 c).flushed 7 t = ((cfg0.win 7).blk t).view.read (Elt F) (res7 m c) := by
  have hN : cfg0.N = 16 := N_0
  have h3 : t.val = 15 := by have := (flush0_7 t).mp hf; have := t.isLt; omega
  obtain rfl : t = t0_15 := Fin.ext h3
  show (cfg0.win 7).cut (grid0.coords t0_15) ((dats m 0 c).after 7 t0_15) = _
  rw [after0_7]
  have hz' : (fun a => win0_7.index t0_15 a * main_v3_2.ty.shape.size a) = fun _ => 0 := funext fun a => by fin_cases a <;> decide
  exact (Memref.read_access_unit_zero (Elt F) main_v3_2 hz' (fun a => by rw [congrFun hz' a]; simp) (res7 m c)).symm

theorem final7 (c : Dev nD) : (dats m 0 c).arrAt 7 cfg0.N = res7 m c :=
  (dats m 0 c).arrAt_eq_of_cover 7 (res7 m c) (flushed7 m c) fun i =>
    ⟨t0_15, (flush0_7 t0_15).mpr rfl, by
      show i ∈ ((View.whole main_v3_2).slice (win0_7.rect t0_15)).set
      rw [View.set_slice_whole, Rect.mem_set_unit]
      intro a
      have h0 : (i 0 : Nat) < 1 := (i 0).isLt
      match a with
      | ⟨0, _⟩ =>
        show win0_7.index t0_15 0 * win0_7.size 0 ≤ (i 0 : Nat) ∧ (i 0 : Nat) < win0_7.index t0_15 0 * win0_7.size 0 + win0_7.xsize (grid0.coords t0_15) 0
        rw [show win0_7.index t0_15 0 * win0_7.size 0 = 0 from by decide +kernel, show win0_7.xsize (grid0.coords t0_15) 0 = 1 from by decide +kernel]; omega⟩

/-- Input 0's block is its whole array. -/
theorem iblk_0 (c : Dev nD) (t : Fin cfg0.N) : (iblk m c 0 t : Vec F S1 .f32) = V m c main_arg3 := by
  have hz' : (fun a => win0_0.index t a * main_arg3.ty.shape.size a) = fun _ => 0 := funext fun a => by
    fin_cases a <;> exact Nat.zero_mul _
  exact Memref.read_access_unit_zero (Elt F) main_arg3 hz' (fun a => by rw [congrFun hz' a]; simp) (V m c main_arg3)

/-- Input 1's block is its whole array. -/
theorem iblk_1 (c : Dev nD) (t : Fin cfg0.N) : (iblk m c 1 t : Vec F S16x4096 .bf16) = V m c main_v0 := by
  have hz' : (fun a => win0_1.index t a * main_v0.ty.shape.size a) = fun _ => 0 := funext fun a => by
    fin_cases a <;> exact Nat.zero_mul _
  exact Memref.read_access_unit_zero (Elt F) main_v0 hz' (fun a => by rw [congrFun hz' a]; simp) (V m c main_v0)

/-- Input 3's block is its whole array. -/
theorem iblk_3 (c : Dev nD) (t : Fin cfg0.N) : (iblk m c 3 t : Vec F S1x22016 .f32) = V m c main_v1 := by
  have hz' : (fun a => win0_3.index t a * main_v1.ty.shape.size a) = fun _ => 0 := funext fun a => by
    fin_cases a <;> exact Nat.zero_mul _
  exact Memref.read_access_unit_zero (Elt F) main_v1 hz' (fun a => by rw [congrFun hz' a]; simp) (V m c main_v1)

/-- Input 4's block is its whole array. -/
theorem iblk_4 (c : Dev nD) (t : Fin cfg0.N) : (iblk m c 4 t : Vec F S1x22016 .f32) = V m c main_v2 := by
  have hz' : (fun a => win0_4.index t a * main_v2.ty.shape.size a) = fun _ => 0 := funext fun a => by
    fin_cases a <;> exact Nat.zero_mul _
  exact Memref.read_access_unit_zero (Elt F) main_v2 hz' (fun a => by rw [congrFun hz' a]; simp) (V m c main_v2)

/-- The weights' block at point `t`: rows `256 t` to `256 t + 255`. -/
theorem iblk_2 (c : Dev nD) (t : Fin cfg0.N) (j : S256x22016.Idx) :
    (iblk m c 2 t : Vec F S256x22016 .fp8e4m3) j = m ((c : Thread nD τ).loc main_arg1) (ix2 (⟨256 * t.val + (j 0).val, by
      have h0 : (j 0).val < 256 := (j 0).isLt
      have hN : t.val < 16 := lt_of_lt_of_eq t.isLt (show cfg0.N = 16 from N_0)
      show 256 * t.val + (j 0).val < 4096
      omega⟩ : Fin 4096) (j 1)) := by
  have hi : win0_2.index t 0 = t.val ∧ win0_2.index t 1 = 0 := by
    rcases fin_N0 t with rfl | rfl | rfl | rfl | rfl | rfl | rfl | rfl | rfl | rfl | rfl | rfl | rfl | rfl | rfl | rfl <;> decide
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * (j 0).val = 256 * t.val + (j 0).val; rw [hi.1]; omega
  | ⟨1, _⟩ => show win0_2.index t 1 * 22016 + 1 * (j 1).val = (j 1).val; rw [hi.2]; omega

/-- The run, read: the three outputs, and the arguments unchanged. -/
theorem run : θ_run defs (onTc (τ := τ) (main (F := F))) ⟨m, fun _ => 0, ρ⟩ fun r => ∀ c : Dev nD,
      r.2.mem ((c.tc : Thread nD τ).loc main_v3_0) = res5 m c
      ∧ r.2.mem ((c.tc : Thread nD τ).loc main_v3_1) = res6 m c
      ∧ r.2.mem ((c.tc : Thread nD τ).loc main_v3_2) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final5 m c), ((h.1 c).1 6).trans (final6 m c),
      ((h.1 c).1 7).trans (final7 m c), h.2 c⟩)
    (θ_run_and (run_main m ρ) (frame_of m ρ (dats m) (A_eq m) (run_main m ρ)))

end Cert.KernelIdeal.Body

end
-- ==== Proof.Exponent.lean ====
/-
  THE QUANTISER'S FACTOR, on one scale. For a scale of magnitude `a`, the kernel finds the exponent field of `a` by eight
  comparisons with powers of two (a binary search) and builds the factor `2 ^ (1 - e)` from the field's bits; the reference counts the
  powers of two that do not exceed `a` and raises 2 to `1 - e`. Both are the same extended real, at every `a`.
-/
module

public import Idealize.ShloMosaic.PureOps
public import Idealize.ShloMosaic.PureOps.Ideal
public import Idealize.ShloMosaic.PureOps.Ideal.Laws

@[expose] public section

set_option maxRecDepth 16384

noncomputable section

namespace Cert.Exponent

open Idealize.ShloMosaic

/-- The value of the float whose exponent field is `n` and whose other bits are zero. -/
def thr (n : ℕ) : EReal := Ideal.ofBits .f32 (IntOp.shli .vector (BitVec.ofNat 32 n) 23#32)

/-- The three fields of that float's bits. -/
theorem fields : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem thr_zero : thr 0 = 0 := by
  obtain ⟨h1, h2, h3⟩ := fields 0
  have h2' : ((IntOp.shli .vector (BitVec.ofNat 32 0) 23#32).extractLsb' 23 8).toNat = 0 := h2
  have h3' : ((IntOp.shli .vector (BitVec.ofNat 32 0) 23#32).extractLsb' 0 23).toNat = 0 := h3
  simp only [thr, Ideal.ofBits, Ideal.ieee, h2', h3']
  norm_num

theorem thr_top : thr 255 = ⊤ := by
  obtain ⟨h1, h2, h3⟩ := fields 255
  have h1' : (IntOp.shli .vector (BitVec.ofNat 32 255) 23#32).extractLsb' 31 1 = 0#1 := h1
  have h2' : ((IntOp.shli .vector (BitVec.ofNat 32 255) 23#32).extractLsb' 23 8).toNat = 255 := h2
  have h3' : ((IntOp.shli .vector (BitVec.ofNat 32 255) 23#32).extractLsb' 0 23).toNat = 0 := h3
  simp [thr, Ideal.ofBits, Ideal.ieee, h1', h2', h3']

/-- A field between 1 and 254 is a power of two. -/
theorem thr_pow (n : ℕ) (h0 : 1 ≤ n) (h1 : n ≤ 254) : thr n = (((2 : ℝ) ^ ((n : ℤ) - 127) : ℝ) : EReal) := by
  obtain ⟨e1, e2, e3⟩ := fields ⟨n, by omega⟩
  dsimp only at e1 e2 e3
  have hn : ¬ n = 255 := by omega
  have hn0 : ¬ n = 0 := by omega
  have e1' : ((IntOp.shli .vector (BitVec.ofNat 32 n) 23#32).extractLsb' 31 1 == 1#1) = false := by rw [e1]; rfl
  simp only [thr, Ideal.ofBits, Ideal.ieee, e2, e3, show 8 + 23 = 31 from rfl, e1',
    show 2 ^ 8 - 1 = 255 from rfl, if_neg hn, if_neg hn0]
  rw [EReal.coe_eq_coe_iff]
  simp only [Bool.false_eq_true, if_false, one_mul]
  have h23 : ((2 ^ 23 + 0 : ℕ) : ℝ) = (2 : ℝ) ^ (23 : ℤ) := by norm_num
  rw [h23, ← zpow_add₀ (by norm_num : (2 : ℝ) ≠ 0)]
  have he : (23 : ℤ) + ((n : ℤ) - (2 ^ (8 - 1) - 1) - (23 : ℕ)) = (n : ℤ) - 127 := by norm_num
  rw [he]

theorem thr_mono (i j : ℕ) (h0 : 1 ≤ i) (hij : i ≤ j) (h1 : j ≤ 255) : thr i ≤ thr j := by
  rcases Nat.lt_or_ge j 255 with hj | hj
  · rw [thr_pow i h0 (by omega), thr_pow j (by omega) (by omega), EReal.coe_le_coe_iff]
    exact zpow_le_zpow_right₀ (by norm_num) (by omega)
  · obtain rfl : j = 255 := by omega
    rw [thr_top]; exact le_top

/-! ## The kernel's search -/

/-- One comparison: add `w` to the field found so far when the float at the sum does not exceed `a`. -/
def step (a : EReal) (v w : BitVec 32) : BitVec 32 :=
  Scalar.select (Ideal.cmp .oge a (Ideal.ofBits .f32 (IntOp.shli .vector (IntOp.addi v w) 23#32))) (IntOp.addi v w) v

/-- The field the eight comparisons find. -/
def field (a : EReal) : BitVec 32 :=
  step a (step a (step a (step a (step a (step a (step a (step a 0#32 128#32) 64#32) 32#32) 16#32) 8#32) 4#32) 2#32) 1#32

open Classical in
/-- The same comparison, on the number. -/
def nstep (a : EReal) (n w : ℕ) : ℕ := if thr (n + w) ≤ a then n + w else n

theorem step_ofNat (a : EReal) (n w : ℕ) : step a (BitVec.ofNat 32 n) (BitVec.ofNat 32 w) = BitVec.ofNat 32 (nstep a n w) := by
  have hadd : IntOp.addi (BitVec.ofNat 32 n) (BitVec.ofNat 32 w) = BitVec.ofNat 32 (n + w) := (BitVec.ofNat_add n w).symm
  unfold step nstep Scalar.select
  rw [hadd]
  change (if Ideal.cmp .oge a (thr (n + w)) = 1 then _ else _) = _
  by_cases h : thr (n + w) ≤ a
  · rw [if_pos h, if_pos (by simp [Ideal.cmp, h])]
  · rw [if_neg h, if_neg (by simp [Ideal.cmp, h])]

/-- What is known when the field is at least `n` and less than `n + w`. -/
def Known (a : EReal) (n w : ℕ) : Prop :=
  n + w ≤ 256 ∧ ∀ i, 1 ≤ i → i ≤ 255 → (i ≤ n → thr i ≤ a) ∧ (n + w ≤ i → ¬ thr i ≤ a)

theorem known_step (a : EReal) (n w : ℕ) (hw : 1 ≤ w) (h : Known a n (w + w)) : Known a (nstep a n w) w := by
  obtain ⟨hb, h⟩ := h
  unfold nstep
  split
  · rename_i hle
    refine ⟨by omega, fun i h0 h1 => ⟨fun hi => ?_, fun hi => (h i h0 h1).2 (by omega)⟩⟩
    exact (thr_mono i (n + w) h0 hi (by omega)).trans hle
  · rename_i hle
    refine ⟨by omega, fun i h0 h1 => ⟨(h i h0 h1).1, fun hi hc => hle ?_⟩⟩
    exact (thr_mono (n + w) i (by omega) hi h1).trans hc

/-- The search finds the largest field whose float does not exceed `a`. -/
theorem field_spec (a : EReal) : ∃ n, n ≤ 255 ∧ field a = BitVec.ofNat 32 n ∧ ∀ i, 1 ≤ i → i ≤ 255 → (thr i ≤ a ↔ i ≤ n) := by
  have k0 : Known a 0 (128 + 128) := ⟨le_refl _, fun i h0 h1 => ⟨fun h => by omega, fun h => by omega⟩⟩
  have k1 := known_step a _ 128 (by omega) k0
  have k2 := known_step a _ 64 (by omega) k1
  have k3 := known_step a _ 32 (by omega) k2
  have k4 := known_step a _ 16 (by omega) k3
  have k5 := known_step a _ 8 (by omega) k4
  have k6 := known_step a _ 4 (by omega) k5
  have k7 := known_step a _ 2 (by omega) k6
  have k8 := known_step a _ 1 (by omega) k7
  refine ⟨_, ?_, ?_, fun i h0 h1 => ⟨fun h => ?_, (k8.2 i h0 h1).1⟩⟩
  · have := k8.1; omega
  · unfold field
    rw [show (0#32 : BitVec 32) = BitVec.ofNat 32 0 from rfl]
    simp only [step_ofNat]
  · by_contra hc
    exact (k8.2 i h0 h1).2 (by omega) h

/-! ## The kernel's factor, the reference's factor, and that they are equal -/

/-- The kernel's factor from the field: `e` is the field less 126, or 0 at fields 0 and 255; the factor's own field is `127 + (1 - e)`. -/
def factorOf (f : BitVec 32) : EReal :=
  Ideal.ofBits .f32 (IntOp.shli .vector (IntOp.addi 127#32 (IntOp.subi 1#32
    (Scalar.select (IntOp.ori (IntOp.cmpi .eq f 0#32) (IntOp.cmpi .eq f 255#32)) 0#32 (IntOp.subi f 126#32)))) 23#32)

/-- The reference's exponent from its count `k` of powers of two. -/
def refExp (a : EReal) (k : BitVec 32) : BitVec 32 :=
  Scalar.select (IntOp.ori (IntOp.cmpi .eq k 0#32) (Ideal.cmp .oeq a (Ideal.ofBits .f32 0x7F800000#32))) 0#32 (IntOp.subi k 126#32)

/-- The reference's factor from its count `k`. -/
def refFactor (a : EReal) (k : BitVec 32) : EReal :=
  Scalar.select (IntOp.cmpi .slt (IntOp.subi 1#32 (refExp a k)) 4294967170#32) (Ideal.ofBits .f32 0x00000000#32)
    (Ideal.pow (Ideal.ofBits .f32 0x40000000#32) (((IntOp.subi 1#32 (refExp a k)).toInt : ℝ) : EReal))

/-- The `k`-th power of two the reference compares with, `2 ^ (k - 126)`. -/
def power (k : Fin 254) : EReal :=
  Ideal.pow (Ideal.ofBits .f32 0x40000000#32) (((IntOp.addi 4294967170#32 (BitVec.ofNat 32 k.val)).toInt : ℝ) : EReal)

theorem two : Ideal.ofBits .f32 0x40000000#32 = ((2 : ℝ) : EReal) := by
  simp [Ideal.ofBits, Ideal.ieee, -EReal.coe_mul]; norm_num

theorem inf : Ideal.ofBits .f32 0x7F800000#32 = ⊤ := by
  simp [Ideal.ofBits, Ideal.ieee]

theorem zero : Ideal.ofBits .f32 0x00000000#32 = 0 := by
  simp [Ideal.ofBits, Ideal.ieee]

theorem pow_two (z : ℤ) : Ideal.pow (Ideal.ofBits .f32 0x40000000#32) ((z : ℝ) : EReal) = (((2 : ℝ) ^ z : ℝ) : EReal) := by
  rw [two]
  show ((Real.rpow 2 (z : ℝ) : ℝ) : EReal) = _
  rw [show Real.rpow 2 (z : ℝ) = (2 : ℝ) ^ z from Real.rpow_intCast 2 z]

theorem power_toInt : ∀ k : Fin 254, (IntOp.addi 4294967170#32 (BitVec.ofNat 32 k.val)).toInt = ((k.val + 1 : ℕ) : ℤ) - 127 := by
  decide +kernel

theorem power_eq (k : Fin 254) : power k = thr (k.val + 1) := by
  unfold power
  rw [power_toInt k, pow_two, thr_pow (k.val + 1) (by omega) (by have := k.isLt; omega)]

/-- The reference's count is the field, or 254 when the field is 255. -/
theorem count_eq (a : EReal) (n : ℕ) (hn : n ≤ 255) (h : ∀ i, 1 ≤ i → i ≤ 255 → (thr i ≤ a ↔ i ≤ n)) :
    (Finset.univ.filter fun k : Fin 254 => Ideal.cmp .ole (power k) a = 1#1).card = min n 254 := by
  have e : (Finset.univ.filter fun k : Fin 254 => Ideal.cmp .ole (power k) a = 1#1) = Finset.univ.filter fun k : Fin 254 => k.val < n := by
    ext k
    rw [Finset.mem_filter, Finset.mem_filter, power_eq]
    have hk := k.isLt
    have := h (k.val + 1) (by omega) (by omega)
    simp only [Finset.mem_univ, true_and]
    rw [← Nat.succ_le_iff, ← this]
    by_cases hc : thr (k.val + 1) ≤ a <;> simp [Ideal.cmp, hc]
  rw [e]
  rw [Fin.card_filter_val_lt, Nat.min_comm]

theorem word_mid : ∀ f : Fin 256, f.val ≠ 0 → f.val ≠ 255 →
    IntOp.addi 127#32 (IntOp.subi 1#32 (Scalar.select (IntOp.ori (IntOp.cmpi .eq (BitVec.ofNat 32 f.val) 0#32) (IntOp.cmpi .eq (BitVec.ofNat 32 f.val) 255#32))
      0#32 (IntOp.subi (BitVec.ofNat 32 f.val) 126#32))) = BitVec.ofNat 32 (254 - f.val) := by decide +kernel

theorem ref_mid : ∀ f : Fin 256, f.val ≠ 0 → f.val ≠ 255 →
    (IntOp.subi 1#32 (Scalar.select (IntOp.ori (IntOp.cmpi .eq (BitVec.ofNat 32 f.val) 0#32) 0#1) 0#32 (IntOp.subi (BitVec.ofNat 32 f.val) 126#32))).toInt = 127 - (f.val : ℤ)
    ∧ IntOp.cmpi .slt (IntOp.subi 1#32 (Scalar.select (IntOp.ori (IntOp.cmpi .eq (BitVec.ofNat 32 f.val) 0#32) 0#1) 0#32 (IntOp.subi (BitVec.ofNat 32 f.val) 126#32)))
      4294967170#32 = (if f.val = 254 then 1#1 else 0#1) := by decide +kernel

theorem thr_128 : thr 128 = ((2 : ℝ) : EReal) := by rw [thr_pow 128 (by omega) (by omega)]; norm_num

/-- THE EQUATION: the factor from the kernel's field is the factor from the reference's count. -/
theorem factor_eq (a : EReal) :
    factorOf (field a) = refFactor a (BitVec.ofNat 32 (Finset.univ.filter fun k : Fin 254 => Ideal.cmp .ole (power k) a = 1#1).card) := by
  obtain ⟨n, hn, hf, h⟩ := field_spec a
  rw [hf, count_eq a n hn h]
  have htop : a = ⊤ ↔ n = 255 := by
    have := h 255 (by omega) (by omega)
    rw [thr_top, top_le_iff] at this
    rw [this]; omega
  have hone : ∀ x : BitVec 32, x = 0#32 → Scalar.select (IntOp.cmpi .slt (IntOp.subi 1#32 x) 4294967170#32) (Ideal.ofBits .f32 0x00000000#32)
      (Ideal.pow (Ideal.ofBits .f32 0x40000000#32) (((IntOp.subi 1#32 x).toInt : ℝ) : EReal)) = thr 128 := by
    rintro x rfl
    rw [show IntOp.cmpi .slt (IntOp.subi 1#32 0#32) 4294967170#32 = 0#1 from by decide,
      show (IntOp.subi 1#32 0#32).toInt = 1 from by decide, pow_two, thr_128]
    simp [Scalar.select]
  unfold refFactor
  by_cases h0 : n = 0
  · subst h0
    refine Eq.trans (show factorOf (BitVec.ofNat 32 0) = thr 128 from ?_) (hone _ ?_).symm
    · unfold factorOf thr; congr 1
    · unfold refExp
      rw [show IntOp.cmpi .eq (BitVec.ofNat 32 (min 0 254)) 0#32 = 1#1 from by decide]
      generalize Ideal.cmp .oeq a (Ideal.ofBits .f32 0x7F800000#32) = b
      revert b; decide
  by_cases h255 : n = 255
  · subst h255
    have ha : a = ⊤ := htop.2 rfl
    refine Eq.trans (show factorOf (BitVec.ofNat 32 255) = thr 128 from ?_) (hone _ ?_).symm
    · unfold factorOf thr; congr 1
    · unfold refExp
      rw [ha, inf, show Ideal.cmp .oeq (⊤ : EReal) ⊤ = 1#1 from by simp [Ideal.cmp]]
      decide
  · have ha : Ideal.cmp .oeq a (Ideal.ofBits .f32 0x7F800000#32) = 0#1 := by
      rw [inf]; have : ¬ a = ⊤ := fun hc => h255 (htop.1 hc)
      simp [Ideal.cmp, this]
    have hmin : min n 254 = n := by omega
    obtain ⟨r1, r2⟩ := ref_mid ⟨n, by omega⟩ h0 h255
    dsimp only at r1 r2
    have w := word_mid ⟨n, by omega⟩ h0 h255
    dsimp only at w
    rw [hmin]
    unfold refExp
    rw [ha, r1, r2]
    have hl : factorOf (BitVec.ofNat 32 n) = thr (254 - n) := by
      unfold factorOf; rw [w]; rfl
    rw [hl]
    by_cases h254 : n = 254
    · subst h254
      rw [if_pos rfl, zero, show 254 - 254 = 0 from rfl, thr_zero]
      rfl
    · rw [if_neg h254, pow_two, thr_pow (254 - n) (by omega) (by omega)]
      simp only [Scalar.select]
      rw [if_neg (by decide)]
      congr 2
      omega

end Cert.Exponent

end
-- ==== Proof.KernelCodes.lean ====
/-
  The kernel's codes at the ideal instance, one by one: the input times the factor of the scale, held between -448 and 448.
-/
module

public import proofs.«01_k».proof.Proof.BlockValue
public import proofs.«01_k».proof.Proof.Exponent
public import Idealize.ShloMosaic.PureOps.Ideal.Laws
public import Idealize.ShloMosaic.Lib.ValueIdx
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.ValueIdx
open Cert.Exponent

/-- A float held between -448 and 448. -/
def clamp (v : EReal) : EReal := min (Ideal.ofBits .f32 0x43E00000#32) (max (Ideal.ofBits .f32 0xC3E00000#32) v)

/-- The magnitude of a scale. -/
def mag (s : EReal) : EReal := max s (-s)

/-- One comparison of the kernel's search, the same in every lane. -/
theorem vstep (s : Elt Ideal .f32) (v w : BitVec 32) :
    select (cmpf (F := Ideal) (φ := .f32) .oge (absf (k0_pay6 s))
        (bitcastToFloat .f32 (shli (addi (broadcast S8x128 v) (broadcast S8x128 w)) (broadcast S8x128 23#32) : IVec S8x128 32)))
      (addi (broadcast S8x128 v) (broadcast S8x128 w)) (broadcast S8x128 v) = broadcast S8x128 (step (mag s) v w) := rfl

/-- The first five comparisons. -/
theorem pay7_eq (s : Elt Ideal .f32) : k0_pay7 (F := Ideal) s = broadcast S8x128
    (step (mag s) (step (mag s) (step (mag s) (step (mag s) (step (mag s) 0#32 128#32) 64#32) 32#32) 16#32) 8#32) := by
  unfold k0_pay7
  simp only [vstep]

/-- The quantised value of one entry, before the format change. -/
theorem codesOf_apply (x1 : Vec Ideal S1 .f32) (x2 : Vec Ideal S16x4096 .bf16) (j : S16x4096.Idx) :
    codesOf x1 x2 j = clamp (x2 j * factorOf (field (mag (scaleOf x1)))) := by
  unfold codesOf k0_pay11 k0_pay10 k0_pay9 k0_pay8
  rw [pay7_eq]
  simp only [shapeCast_self]
  rfl

end Cert.KernelIdeal.Body

end
-- ==== Proof.KernelValue.lean ====
/-
  The kernel's arrays at the ideal instance, entry by entry. Sixteen points each add the product of 256 of the codes with 256 rows of
  the weights, so the accumulator after the last one is the whole sum; the result is that sum times the two scales, plus the bias.
-/
module

public import proofs.«01_k».proof.Proof.KernelFinal
public import proofs.«01_k».proof.Proof.KernelCodes
public import Idealize.ShloMosaic.Lib.MatmulPlain
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL Idealize.SL.Sem
open Idealize.ShloMosaic.Pipeline (Dat Cfg Window)
open scoped BigOperators
open Cert.Exponent

/-- The kept block point `t` loads is block `t`. -/
theorem slab_apply (t : Fin cfg0.N) (k : Vec Ideal S16x16x256 .fp8e4m3) (b : Fin 1) (r : Fin 16) (l : Fin 256) :
    slab (grid0.coords t) k (ix3 b r l) = k (ix3 ⟨t.val, lt_of_lt_of_eq t.isLt (show cfg0.N = 16 from N_0)⟩ r l) := by
  have ht : t.val < 16 := lt_of_lt_of_eq t.isLt (show cfg0.N = 16 from N_0)
  have e0 : (grid0.coords t 0).val = t.val := by
    have h : (grid0.coords t 0).val = t.val / 1 % 16 := Pipeline.Grid.coords_val t 0 (by decide) rfl
    omega
  have eo : k0_off1 (grid0.coords t) 0 = t.val := by
    show (Scalar.indexCast (BitVec.ofNat 32 (grid0.coords t 0).val)).toNat = t.val
    rw [e0]
    show (BitVec.ofNat 32 t.val).toNat = t.val
    rw [BitVec.toNat_ofNat]; omega
  show k _ = k _
  congr 1
  funext a
  apply Fin.ext
  match a with
  | ⟨0, _⟩ => show k0_off1 (grid0.coords t) 0 + 1 * b.val = t.val; rw [eo]; omega
  | ⟨1, _⟩ => show 0 + 1 * r.val = r.val; omega
  | ⟨2, _⟩ => show 0 + 1 * l.val = l.val; omega

/-- One step adds to an entry the sum over the point's 256 codes. -/
theorem stepOf_apply (t : Fin cfg0.N) (a : Vec Ideal S16x22016 .f32) (k : Vec Ideal S16x16x256 .fp8e4m3)
    (w : Vec Ideal S256x22016 .fp8e4m3) (r : Fin 16) (c : Fin 22016) :
    stepOf (grid0.coords t) a k w (ix2 r c)
      = a (ix2 r c) + ∑ l : Fin 256, k (ix3 ⟨t.val, lt_of_lt_of_eq t.isLt (show cfg0.N = 16 from N_0)⟩ r l) * w (ix2 l c) := by
  unfold stepOf k0_pay4
  simp only [shapeCast_self, matmul]
  rw [addf_apply]
  rw [show dot_S16x256_S256x22016_S16x22016_1_0_0_1_n_n = DotDims.plain 16 256 22016 from rfl, Ideal.matmul_plain_apply]
  rw [show (constant S16x22016 .f32 0x00000000#32 : FVec Ideal S16x22016 .f32) (ix2 r c) = 0 from Ideal.ofBits_zero_f32, zero_add]
  refine congrArg (a (ix2 r c) + ·) (Finset.sum_congr rfl fun l _ => ?_)
  rw [shapeCast_1ab_ab_apply, slab_apply]

variable (m : (ℓ : Loc nD τ sig) → Buf (Elt Ideal) ℓ) (ρ : Dev nD → PrngReg)

/-- The weights. -/
abbrev wgt (c : Dev nD) : Vec Ideal S4096x22016 .fp8e4m3 := m ((c : Thread nD τ).loc main_arg1)

/-- The product of code `k` of row `r` with weight `k` of column `j` (nothing past the last). -/
def term (c : Dev nD) (r : Fin 16) (j : Fin 22016) (k : ℕ) : EReal :=
  if h : k < 4096 then (codesAt m c (ix2 r ⟨k, h⟩) : EReal) * wgt m c (ix2 ⟨k, h⟩ j) else 0

/-- One point's sum is the sum of its 256 terms. -/
theorem point_sum (c : Dev nD) (t : Fin cfg0.N) (r : Fin 16) (j : Fin 22016) :
    (∑ l : Fin 256, (keptAt m c (ix3 ⟨t.val, lt_of_lt_of_eq t.isLt (show cfg0.N = 16 from N_0)⟩ r l) : EReal) * (iblk m c 2 t : Vec Ideal S256x22016 .fp8e4m3) (ix2 l j))
      = ∑ l ∈ Finset.range 256, term m c r j (256 * t.val + l) := by
  have ht : t.val < 16 := lt_of_lt_of_eq t.isLt (show cfg0.N = 16 from N_0)
  rw [Finset.sum_range]
  refine Finset.sum_congr rfl fun l _ => ?_
  have hl := l.isLt
  rw [term, dif_pos (by omega : 256 * t.val + l.val < 4096), iblk_2]
  rfl

theorem accAt_apply (c : Dev nD) (r : Fin 16) (j : Fin 22016) (n : ℕ) (h : n < cfg0.N) :
    (accAt m c n h (ix2 r j) : EReal) = ∑ k ∈ Finset.range (256 * (n + 1)), term m c r j k := by
  induction n with
  | zero =>
    rw [accAt_zero m c ⟨0, h⟩ rfl, stepOf_apply, point_sum m c ⟨0, h⟩]
    rw [show (k0_pay3 (F := Ideal)) (ix2 r j) = (0 : EReal) from by
      unfold k0_pay3; simp only [shapeCast_self]; exact Ideal.ofBits_zero_f32, zero_add]
    simp only [Nat.mul_zero, Nat.zero_add, Nat.mul_one]
  | succ n ih =>
    rw [accAt_pos m c ⟨n + 1, h⟩ (Nat.succ_ne_zero n), stepOf_apply, point_sum m c ⟨n + 1, h⟩]
    rw [show 256 * (n + 1 + 1) = 256 * (n + 1) + 256 from by ring, Finset.sum_range_add]
    exact congrArg (· + _) (ih (Nat.lt_of_succ_lt h))

/-- The accumulator after the last point is the whole sum. -/
theorem acc_last (c : Dev nD) (r : Fin 16) (j : Fin 22016) :
    (accAt m c t0_15.val t0_15.isLt (ix2 r j) : EReal) = ∑ k : Fin 4096, (codesAt m c (ix2 r k) : EReal) * wgt m c (ix2 k j) := by
  rw [accAt_apply, show 256 * (t0_15.val + 1) = 4096 from rfl, Finset.sum_range]
  refine Finset.sum_congr rfl fun k _ => ?_
  rw [term, dif_pos k.isLt]

/-- The scale. -/
abbrev scl (c : Dev nD) : EReal := (m ((c : Thread nD τ).loc main_arg3) : Vec Ideal S1 .f32) (ix1 (0 : Fin 1))

/-- The input. -/
abbrev xin (c : Dev nD) : Vec Ideal S16x1x4096 .bf16 := m ((c : Thread nD τ).loc main_arg0)

/-- The weights' scales. -/
abbrev wsc (c : Dev nD) : Vec Ideal S22016 .f32 := m ((c : Thread nD τ).loc main_arg2)

/-- The bias. -/
abbrev bia (c : Dev nD) : Vec Ideal S22016 .f32 := m ((c : Thread nD τ).loc main_arg4)

/-- The input as the kernel's region finds it: its unit axis dropped. -/
theorem V_v0 (c : Dev nD) : (V m c main_v0 : Vec Ideal S16x4096 .bf16) = shapeCast S16x4096 (xin m c) shapeCasts_S16x1x4096_S16x4096 := by
  entry_read; rfl

/-- The weights' scales: a unit axis added. -/
theorem V_v1 (c : Dev nD) : (V m c main_v1 : Vec Ideal S1x22016 .f32) = shapeCast S1x22016 (wsc m c) shapeCasts_S22016_S1x22016 := by
  entry_read; rfl

/-- The bias: a unit axis added. -/
theorem V_v2 (c : Dev nD) : (V m c main_v2 : Vec Ideal S1x22016 .f32) = shapeCast S1x22016 (bia m c) shapeCasts_S22016_S1x22016 := by
  entry_read; rfl

/-- An array with a unit axis in the middle, cast to drop it. -/
theorem drop_mid (x : Vec Ideal S16x1x4096 .bf16) (r : Fin 16) (k : Fin 4096) :
    shapeCast S16x4096 x shapeCasts_S16x1x4096_S16x4096 (ix2 r k) = x (ix3 r (0 : Fin 1) k) :=
  shapeCast_apply x shapeCasts_S16x1x4096_S16x4096 _ _ (by
    rw [Shape.rowMajor_val_three, Shape.rowMajor_val_two]
    show (r.val * 1 + 0) * 4096 + k.val = r.val * 4096 + k.val
    omega)

/-- The codes, entry by entry. -/
theorem codes_apply (c : Dev nD) (r : Fin 16) (k : Fin 4096) :
    (codesAt m c (ix2 r k) : EReal) = clamp ((xin m c (ix3 r (0 : Fin 1) k) : EReal) * factorOf (field (mag (scl m c)))) := by
  unfold codesAt
  rw [codesOf_apply, iblk_0, iblk_1, V_main_arg3, V_v0, drop_mid]
  rfl

/-- The last point's arithmetic, entry by entry. -/
theorem pay5_apply (a : Vec Ideal S16x22016 .f32) (s : Elt Ideal .f32) (ws b : Vec Ideal S1x22016 .f32) (r : Fin 16) (j : Fin 22016) :
    (k0_pay5 a s ws b (ix2 r j) : EReal) = a (ix2 r j) * (s * ws (ix2 (0 : Fin 1) j)) + b (ix2 (0 : Fin 1) j) := by
  unfold k0_pay5
  simp only [shapeCast_self]
  change (addf (mulf a (broadcastTo S16x22016 (mulf (broadcast S1x22016 s) ws : FVec Ideal S1x22016 .f32) broadcasts_S1x22016_S16x22016))
    (broadcastTo S16x22016 b broadcasts_S1x22016_S16x22016) : FVec Ideal S16x22016 .f32) (ix2 r j) = _
  rw [addf_apply, mulf_apply, broadcastTo_1b_ab_apply, broadcastTo_1b_ab_apply, mulf_apply]
  rfl

/-- The result, entry by entry. -/
theorem y_apply (c : Dev nD) (r : Fin 16) (j : Fin 22016) :
    (yAt m c t0_15 (ix2 r j) : EReal)
      = (∑ k : Fin 4096, (codesAt m c (ix2 r k) : EReal) * wgt m c (ix2 k j)) * (scl m c * (wsc m c (ix1 j) : EReal)) + bia m c (ix1 j) := by
  unfold yAt
  rw [pay5_apply, acc_last, iblk_0, iblk_3, iblk_4, V_main_arg3, V_v1, V_v2, shapeCast_a_1a_apply, shapeCast_a_1a_apply]
  rfl

end Cert.KernelIdeal.Body

end
-- ==== Proof.RefArrays.lean ====
/-
  What the reference's arrays hold after its run: its one launch has one point, so each input's block is its whole array and each
  output is what the body computes from the whole inputs.
-/
module

public import proofs.«01_k».proof.Proof.Gen.ReferenceIdeal.Value
public import Idealize.ShloMosaic.Lib.Pipeline.Value
public import Idealize.ShloMosaic.Lib.ValueIdx

@[expose] public section

set_option maxRecDepth 16384

noncomputable section

namespace Cert.ReferenceIdeal.Arrays

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

theorem hz : (![0, 0] : Fin 2 → Nat) = fun _ => 0 := funext fun a => by fin_cases a <;> rfl

/-- The body's first output from its inputs. -/
theorem out4_eq (x0 : Vec F S16x4096 .f32) (x1 : Vec F S4096x22016 .fp8e4m3) (x2 x3 : Vec F S1x22016 .f32) :
    out0_4 x0 x1 x2 x3 = k0_pay2 x0 x1 x2 x3 := by
  unfold out0_4
  rw [View.canon_unit_zero hz, View.ld_unit_zero hz, View.ld_unit_zero hz, View.ld_unit_zero hz, View.ld_unit_zero hz]

/-- The body's second output from its inputs. -/
theorem out5_eq (x0 : Vec F S16x4096 .f32) (x1 : Vec F S4096x22016 .fp8e4m3) (x2 x3 : Vec F S1x22016 .f32) :
    out0_5 x0 x1 x2 x3 = k0_pay1 x0 := by
  unfold out0_5
  rw [View.canon_unit_zero hz, View.ld_unit_zero hz]

/-- Input 0's block is its whole array. -/
theorem iblk_0 (c : Dev nD) (t : Fin cfg0.N) : (iblk m c 0 t : Vec F S16x4096 .f32) = V m c main_v33 := by
  have hz' : (fun a => win0_0.index t a * main_v33.ty.shape.size a) = fun _ => 0 := funext fun a => by
    fin_cases a <;> exact Nat.zero_mul _
  exact Memref.read_access_unit_zero (Elt F) main_v33 hz' (fun a => by rw [congrFun hz' a]; simp) (V m c main_v33)

/-- Input 1's block is its whole array. -/
theorem iblk_1 (c : Dev nD) (t : Fin cfg0.N) : (iblk m c 1 t : Vec F S4096x22016 .fp8e4m3) = V m c main_arg1 := by
  have hz' : (fun a => win0_1.index t a * main_arg1.ty.shape.size a) = fun _ => 0 := funext fun a => by
    fin_cases a <;> exact Nat.zero_mul _
  exact Memref.read_access_unit_zero (Elt F) main_arg1 hz' (fun a => by rw [congrFun hz' a]; simp) (V m c main_arg1)

/-- Input 2's block is its whole array. -/
theorem iblk_2 (c : Dev nD) (t : Fin cfg0.N) : (iblk m c 2 t : Vec F S1x22016 .f32) = V m c main_v36 := by
  have hz' : (fun a => win0_2.index t a * main_v36.ty.shape.size a) = fun _ => 0 := funext fun a => by
    fin_cases a <;> exact Nat.zero_mul _
  exact Memref.read_access_unit_zero (Elt F) main_v36 hz' (fun a => by rw [congrFun hz' a]; simp) (V m c main_v36)

/-- Input 3's block is its whole array. -/
theorem iblk_3 (c : Dev nD) (t : Fin cfg0.N) : (iblk m c 3 t : Vec F S1x22016 .f32) = V m c main_v37 := by
  have hz' : (fun a => win0_3.index t a * main_v37.ty.shape.size a) = fun _ => 0 := funext fun a => by
    fin_cases a <;> exact Nat.zero_mul _
  exact Memref.read_access_unit_zero (Elt F) main_v37 hz' (fun a => by rw [congrFun hz' a]; simp) (V m c main_v37)

/-- Output 4's array after the run. -/
abbrev res4 (c : Dev nD) : Buf (Elt F) ((c : Thread nD τ).loc main_v38_0) := k0_pay2 (V m c main_v33) (V m c main_arg1) (V m c main_v36) (V m c main_v37)

/-- Its one write-back writes it. -/
theorem flushed4 (c : Dev nD) (t : Fin cfg0.N) (hf : (cfg0.win 4).flush t = true) :
    (dats m 0 c).flushed 4 t = ((cfg0.win 4).blk t).view.read (Elt F) (res4 m c) := by
  obtain rfl : t = t0_0 := fin_N0 t
  rw [Cert.ReferenceIdeal.Value.flushed4]
  rw [iblk_0, iblk_1, iblk_2, iblk_3, out4_eq]
  have hz' : (fun a => win0_4.index t0_0 a * main_v38_0.ty.shape.size a) = fun _ => 0 := funext fun a => by fin_cases a <;> decide
  exact (Memref.read_access_unit_zero (Elt F) main_v38_0 hz' (fun a => by rw [congrFun hz' a]; simp) (res4 m c)).symm

theorem final4 (c : Dev nD) : (dats m 0 c).arrAt 4 cfg0.N = res4 m c :=
  (dats m 0 c).arrAt_eq_of_cover 4 (res4 m c) (flushed4 m c) fun i =>
    ⟨t0_0, flush0_4 t0_0, by
      show i ∈ ((View.whole main_v38_0).slice (win0_4.rect t0_0)).set
      rw [View.set_slice_whole, Rect.mem_set_unit]
      intro a
      have h0 : (i 0 : Nat) < 16 := (i 0).isLt
      have h1 : (i 1 : Nat) < 22016 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 16 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 22016 from by decide +kernel]; omega⟩

/-- Output 5's array after the run. -/
abbrev res5 (c : Dev nD) : Buf (Elt F) ((c : Thread nD τ).loc main_v38_1) := k0_pay1 (V m c main_v33)

/-- Its one write-back writes it. -/
theorem flushed5 (c : Dev nD) (t : Fin cfg0.N) (hf : (cfg0.win 5).flush t = true) :
    (dats m 0 c).flushed 5 t = ((cfg0.win 5).blk t).view.read (Elt F) (res5 m c) := by
  obtain rfl : t = t0_0 := fin_N0 t
  rw [Cert.ReferenceIdeal.Value.flushed5]
  rw [iblk_0, iblk_1, iblk_2, iblk_3, out5_eq]
  have hz' : (fun a => win0_5.index t0_0 a * main_v38_1.ty.shape.size a) = fun _ => 0 := funext fun a => by fin_cases a <;> decide
  exact (Memref.read_access_unit_zero (Elt F) main_v38_1 hz' (fun a => by rw [congrFun hz' a]; simp) (res5 m c)).symm

theorem final5 (c : Dev nD) : (dats m 0 c).arrAt 5 cfg0.N = res5 m c :=
  (dats m 0 c).arrAt_eq_of_cover 5 (res5 m c) (flushed5 m c) fun i =>
    ⟨t0_0, flush0_5 t0_0, by
      show i ∈ ((View.whole main_v38_1).slice (win0_5.rect t0_0)).set
      rw [View.set_slice_whole, Rect.mem_set_unit]
      intro a
      have h0 : (i 0 : Nat) < 16 := (i 0).isLt
      have h1 : (i 1 : Nat) < 4096 := (i 1).isLt
      match a with
      | ⟨0, _⟩ =>
        show win0_5.index t0_0 0 * win0_5.size 0 ≤ (i 0 : Nat) ∧ (i 0 : Nat) < win0_5.index t0_0 0 * win0_5.size 0 + win0_5.xsize (grid0.coords t0_0) 0
        rw [show win0_5.index t0_0 0 * win0_5.size 0 = 0 from by decide +kernel, show win0_5.xsize (grid0.coords t0_0) 0 = 16 from by decide +kernel]; omega
      | ⟨1, _⟩ =>
        show win0_5.index t0_0 1 * win0_5.size 1 ≤ (i 1 : Nat) ∧ (i 1 : Nat) < win0_5.index t0_0 1 * win0_5.size 1 + win0_5.xsize (grid0.coords t0_0) 1
        rw [show win0_5.index t0_0 1 * win0_5.size 1 = 0 from by decide +kernel, show win0_5.xsize (grid0.coords t0_0) 1 = 4096 from by decide +kernel]; omega⟩

end Cert.ReferenceIdeal.Arrays

end
-- ==== Proof.RefHost.lean ====
/-
  What the reference's host line hands its launch: the clipped products of the inputs with the quantiser's factor, and the two rows by
  which the launch scales and shifts its columns. Read stretch by stretch, in the order the line runs them.
-/
module

public import proofs.«01_k».proof.Proof.Gen.ReferenceIdeal.Frame
public import Idealize.ShloMosaic.Lib.Claim
public import Idealize.ShloMosaic.PureOps.Ideal

@[expose] public section

set_option maxRecDepth 16384

noncomputable section

namespace Cert.ReferenceIdeal.Arrays

open Cert.ReferenceIdeal Cert.ReferenceIdeal.Gen
open Idealize.ShloMosaic Idealize.ShloMosaic.TcCoe Idealize.SL Idealize.SL.Sem

/-! ## The values, as functions of the arguments -/

/-- How many of the 254 normal powers of two lie at or below the scale's magnitude. -/
def cntV (s : FVec Ideal S1 .f32) : IVec S_ 32 :=
  Host.reduce IntOp.addi
    (extui 32 (cmpf .ole
      (Host.powf (broadcastInDim S254 ![] bcast_S_S254 (constant (F := Ideal) S_ .f32 0x40000000#32))
        (sitofp .f32 (addi (broadcastInDim S254 ![] bcast_S_S254 (constantI S_ 32 4294967170#32)) (iotaInDim S254 32 0))))
      (broadcastInDim S254 ![0] bcast_S1_S254_0 (Host.absf s))) natLt_1_32)
    (constantI S_ 32 0#32) reducesTo_S254_S_d0 h_S_

/-- Whether the scale is below every one of them, or infinite. -/
def edgeV (s : FVec Ideal S1 .f32) : IVec S1 1 :=
  ori (broadcastInDim S1 ![] bcast_S_S1 (cmpi .eq (cntV s) (constantI S_ 32 0#32)))
    (cmpf .oeq (Host.absf s) (broadcastInDim S1 ![] bcast_S_S1 (constant (F := Ideal) S_ .f32 0x7F800000#32)))

/-- A choice between two scalars. -/
def pickV (p : IVec S1 1) (a b : IVec S_ 32) : IVec S1 32 :=
  select p (broadcastInDim S1 ![] bcast_S_S1 a) (broadcastInDim S1 ![] bcast_S_S1 b)

/-- The scale's exponent. -/
def expV (s : FVec Ideal S1 .f32) : IVec S1 32 :=
  pickV (edgeV s) (constantI S_ 32 0#32) (subi (cntV s) (constantI S_ 32 126#32))

/-- One minus an exponent. -/
def negV (e : IVec S1 32) : IVec S1 32 :=
  subi (broadcastInDim S1 ![] bcast_S_S1 (constantI S_ 32 1#32)) e

/-- Whether it is below the smallest normal exponent. -/
def lowV (e : IVec S1 32) : IVec S1 1 :=
  cmpi .slt (negV e) (broadcastInDim S1 ![] bcast_S_S1 (constantI S_ 32 4294967170#32))

/-- Two to it. -/
def powV (e : IVec S1 32) : FVec Ideal S1 .f32 :=
  Host.powf (broadcastInDim S1 ![] bcast_S_S1 (constant (F := Ideal) S_ .f32 0x40000000#32)) (sitofp .f32 (negV e))

/-- A choice between a scalar and a value. -/
def orV (p : IVec S1 1) (a : FVec Ideal S_ .f32) (b : FVec Ideal S1 .f32) : FVec Ideal S1 .f32 :=
  select p (broadcastInDim S1 ![] bcast_S_S1 a) b

/-- The quantiser's factor. -/
def facV (s : FVec Ideal S1 .f32) : FVec Ideal S1 .f32 :=
  orV (lowV (expV s)) (constant (F := Ideal) S_ .f32 0x00000000#32) (powV (expV s))

/-- The inputs times the factor. -/
def prodV (x : FVec Ideal S16x1x4096 .bf16) (f : FVec Ideal S1 .f32) : FVec Ideal S16x4096 .f32 :=
  mulf (extf .f32 (shapeCast S16x4096 x shapeCasts_S16x1x4096_S16x4096) bitsLt_bf16_f32)
    (broadcastInDim S16x4096 ![0, 1] bcast_S1x1_S16x4096_0_1 (broadcastInDim S1x1 ![1] bcast_S1_S1x1_1 f))

/-- Clipped between two scalars. -/
def clipV (lo hi : FVec Ideal S_ .f32) (p : FVec Ideal S16x4096 .f32) : FVec Ideal S16x4096 .f32 :=
  minimumf (broadcastInDim S16x4096 ![] bcast_S_S16x4096 hi) (maximumf (broadcastInDim S16x4096 ![] bcast_S_S16x4096 lo) p)

/-- The columns' scales: the inputs' scale times the weights'. -/
def rowV (s : FVec Ideal S1 .f32) (w : FVec Ideal S22016 .f32) : FVec Ideal S22016 .f32 :=
  mulf (broadcastInDim S22016 ![0] bcast_S1_S22016_0 s) w

/-- A row with a unit axis added. -/
def unitV (w : FVec Ideal S22016 .f32) : FVec Ideal S1x22016 .f32 :=
  broadcastInDim S1x22016 ![1] bcast_S22016_S1x22016_1 w

/-! ## What each stretch leaves -/

section
variable (σ : Valuation τ sig (Elt Ideal))

theorem q0_v15 : (StableHlo.after hostOps0 σ main_v15 : IVec S1 1) = edgeV (σ main_arg3) := by
  entry_read; rfl
theorem q0_v16 : (StableHlo.after hostOps0 σ main_v16 : IVec S_ 32) = subi (cntV (σ main_arg3)) (constantI S_ 32 126#32) := by
  entry_read; rfl
theorem q0_c4 : (StableHlo.after hostOps0 σ main_c_4 : IVec S_ 32) = constantI S_ 32 0#32 := by
  entry_read; rfl
theorem q1_v17 : (StableHlo.after hostOps0_1 σ main_v17 : IVec S1 32) = pickV (σ main_v15) (σ main_c_4) (σ main_v16) := by
  entry_read; rfl
theorem q2_v21 : (StableHlo.after hostOps0_2 σ main_v21 : IVec S1 1) = lowV (σ main_v17) := by
  entry_read; rfl
theorem q2_v26 : (StableHlo.after hostOps0_2 σ main_v26 : FVec Ideal S1 .f32) = powV (σ main_v17) := by
  entry_read; rfl
theorem q2_cst9 : (StableHlo.after hostOps0_2 σ main_cst_9 : FVec Ideal S_ .f32) = constant (F := Ideal) S_ .f32 0x00000000#32 := by
  entry_read; rfl
theorem q3_v27 : (StableHlo.after hostOps0_3 σ main_v27 : FVec Ideal S1 .f32) = orV (σ main_v21) (σ main_cst_9) (σ main_v26) := by
  entry_read; rfl
theorem q4_v32 : (StableHlo.after hostOps0_4 σ main_v32 : FVec Ideal S16x4096 .f32) = prodV (σ main_arg0) (σ main_v27) := by
  entry_read; rfl
theorem q4_cst10 : (StableHlo.after hostOps0_4 σ main_cst_10 : FVec Ideal S_ .f32) = constant (F := Ideal) S_ .f32 0xC3E00000#32 := by
  entry_read; rfl
theorem q4_cst11 : (StableHlo.after hostOps0_4 σ main_cst_11 : FVec Ideal S_ .f32) = constant (F := Ideal) S_ .f32 0x43E00000#32 := by
  entry_read; rfl
theorem q5_v33 : (StableHlo.after hostOps0_5 σ main_v33 : FVec Ideal S16x4096 .f32) = clipV (σ main_cst_10) (σ main_cst_11) (σ main_v32) := by
  entry_read; rfl
theorem q6_v33 : (StableHlo.after hostOps0_6 σ main_v33 : FVec Ideal S16x4096 .f32) = σ main_v33 := by
  entry_read; rfl
theorem q6_v36 : (StableHlo.after hostOps0_6 σ main_v36 : FVec Ideal S1x22016 .f32) = unitV (rowV (σ main_arg3) (σ main_arg2)) := by
  entry_read; rfl
theorem q6_v37 : (StableHlo.after hostOps0_6 σ main_v37 : FVec Ideal S1x22016 .f32) = unitV (σ main_arg4) := by
  entry_read; rfl

/-! The arguments, left alone. -/

theorem p0_a0 : StableHlo.after hostOps0 σ main_arg0 = σ main_arg0 := by entry_read; rfl
theorem p1_a0 : StableHlo.after hostOps0_1 σ main_arg0 = σ main_arg0 := by entry_read; rfl
theorem p2_a0 : StableHlo.after hostOps0_2 σ main_arg0 = σ main_arg0 := by entry_read; rfl
theorem p3_a0 : StableHlo.after hostOps0_3 σ main_arg0 = σ main_arg0 := by entry_read; rfl
theorem p0_a2 : StableHlo.after hostOps0 σ main_arg2 = σ main_arg2 := by entry_read; rfl
theorem p1_a2 : StableHlo.after hostOps0_1 σ main_arg2 = σ main_arg2 := by entry_read; rfl
theorem p2_a2 : StableHlo.after hostOps0_2 σ main_arg2 = σ main_arg2 := by entry_read; rfl
theorem p3_a2 : StableHlo.after hostOps0_3 σ main_arg2 = σ main_arg2 := by entry_read; rfl
theorem p4_a2 : StableHlo.after hostOps0_4 σ main_arg2 = σ main_arg2 := by entry_read; rfl
theorem p5_a2 : StableHlo.after hostOps0_5 σ main_arg2 = σ main_arg2 := by entry_read; rfl
theorem p0_a3 : StableHlo.after hostOps0 σ main_arg3 = σ main_arg3 := by entry_read; rfl
theorem p1_a3 : StableHlo.after hostOps0_1 σ main_arg3 = σ main_arg3 := by entry_read; rfl
theorem p2_a3 : StableHlo.after hostOps0_2 σ main_arg3 = σ main_arg3 := by entry_read; rfl
theorem p3_a3 : StableHlo.after hostOps0_3 σ main_arg3 = σ main_arg3 := by entry_read; rfl
theorem p4_a3 : StableHlo.after hostOps0_4 σ main_arg3 = σ main_arg3 := by entry_read; rfl
theorem p5_a3 : StableHlo.after hostOps0_5 σ main_arg3 = σ main_arg3 := by entry_read; rfl
theorem p0_a4 : StableHlo.after hostOps0 σ main_arg4 = σ main_arg4 := by entry_read; rfl
theorem p1_a4 : StableHlo.after hostOps0_1 σ main_arg4 = σ main_arg4 := by entry_read; rfl
theorem p2_a4 : StableHlo.after hostOps0_2 σ main_arg4 = σ main_arg4 := by entry_read; rfl
theorem p3_a4 : StableHlo.after hostOps0_3 σ main_arg4 = σ main_arg4 := by entry_read; rfl
theorem p4_a4 : StableHlo.after hostOps0_4 σ main_arg4 = σ main_arg4 := by entry_read; rfl
theorem p5_a4 : StableHlo.after hostOps0_5 σ main_arg4 = σ main_arg4 := by entry_read; rfl

end

/-! ## What the launch finds -/

variable (m : (ℓ : Loc nD τ sig) → Buf (Elt Ideal) ℓ)

/-- The whole line is its stretches, one after the other. -/
theorem V_split (c : Dev nD) (b : Ref sig .tc) : V m c b
    = StableHlo.after hostOps0_6 (StableHlo.after hostOps0_5 (StableHlo.after hostOps0_4 (StableHlo.after hostOps0_3
        (StableHlo.after hostOps0_2 (StableHlo.after hostOps0_1 (StableHlo.after hostOps0 (fun b => m (c, b)))))))) b := rfl

theorem V_v33 (c : Dev nD) : (V m c main_v33 : FVec Ideal S16x4096 .f32)
    = clipV (constant (F := Ideal) S_ .f32 0xC3E00000#32) (constant (F := Ideal) S_ .f32 0x43E00000#32)
        (prodV (m ((c : Thread nD τ).loc main_arg0)) (facV (m ((c : Thread nD τ).loc main_arg3)))) := by
  rw [V_split, q6_v33, q5_v33, q4_cst10, q4_cst11, q4_v32, q3_v27, p3_a0, p2_a0, p1_a0, p0_a0, q2_v21, q2_v26, q2_cst9, q1_v17,
    q0_v15, q0_v16, q0_c4]
  rfl

theorem V_v36 (c : Dev nD) : (V m c main_v36 : FVec Ideal S1x22016 .f32)
    = unitV (rowV (m ((c : Thread nD τ).loc main_arg3)) (m ((c : Thread nD τ).loc main_arg2))) := by
  rw [V_split, q6_v36, p5_a3, p4_a3, p3_a3, p2_a3, p1_a3, p0_a3, p5_a2, p4_a2, p3_a2, p2_a2, p1_a2, p0_a2]

theorem V_v37 (c : Dev nD) : (V m c main_v37 : FVec Ideal S1x22016 .f32) = unitV (m ((c : Thread nD τ).loc main_arg4)) := by
  rw [V_split, q6_v37, p5_a4, p4_a4, p3_a4, p2_a4, p1_a4, p0_a4]

end Cert.ReferenceIdeal.Arrays

end
-- ==== Proof.RefValue.lean ====
/-
  The reference's arrays at the ideal instance, entry by entry: the count of powers of two, the factor it gives, the codes and the result.
-/
module

public import proofs.«01_k».proof.Proof.RefArrays
public import proofs.«01_k».proof.Proof.RefHost
public import proofs.«01_k».proof.Proof.Exponent
public import proofs.«01_k».proof.Proof.KernelCodes
public import Idealize.ShloMosaic.Lib.IndicatorCount
public import Idealize.ShloMosaic.Lib.MatmulPlain
public import Idealize.ShloMosaic.Lib.ValueIdx
public import Idealize.ShloMosaic.PureOps.Ideal.Laws

@[expose] public section

set_option maxRecDepth 16384

noncomputable section

namespace Cert.ReferenceIdeal.Arrays

open Cert.ReferenceIdeal Cert.ReferenceIdeal.Gen
open Idealize.ShloMosaic Idealize.ShloMosaic.TcCoe Idealize.ShloMosaic.ValueIdx Idealize.SL Idealize.SL.Sem
open scoped BigOperators
open Cert.Exponent
open Cert.KernelIdeal.Body (clamp mag)

/-! ## The factor -/

/-- An axis of one entry has one index. -/
theorem one_idx (i : S1.Idx) : i = ix1 (0 : Fin 1) := funext fun a => by
  match a with
  | ⟨0, _⟩ => exact Subsingleton.elim (α := Fin 1) _ _

/-- Whether power `k` lies at or below the scale's magnitude. -/
theorem below (s : FVec Ideal S1 .f32) (k : Fin 254) :
    (cmpf .ole
      (Host.powf (broadcastInDim S254 ![] bcast_S_S254 (constant (F := Ideal) S_ .f32 0x40000000#32))
        (sitofp .f32 (addi (broadcastInDim S254 ![] bcast_S_S254 (constantI S_ 32 4294967170#32)) (iotaInDim S254 32 0))))
      (broadcastInDim S254 ![0] bcast_S1_S254_0 (Host.absf s)) : IVec S254 1) (ix1 k)
      = Ideal.cmp .ole (power k) (mag (s (ix1 (0 : Fin 1)))) := by
  show Ideal.cmp .ole (power k) (mag (s _)) = _
  exact congrArg (fun i => Ideal.cmp .ole (power k) (mag (s i))) (one_idx _)

/-- The indices of the powers are 0 to 253. -/
theorem range_254 (i : S254.Idx) : i = ix1 (i 0) := funext fun a => by
  match a with
  | ⟨0, _⟩ => rfl

/-- A sum of 254 one-bit words is the number of ones among them. -/
theorem reduce_count (p : IVec S254 1) (j : S_.Idx) :
    Host.reduce IntOp.addi (extui 32 p natLt_1_32) (constantI S_ 32 0#32) reducesTo_S254_S_d0 h_S_ j
      = BitVec.ofNat 32 (Finset.univ.filter fun k : Fin 254 => p (ix1 k) = 1#1).card := by
  haveI : Std.Commutative (IntOp.addi (w := 32)) := ⟨fun a b => BitVec.add_comm a b⟩
  haveI : Std.Associative (IntOp.addi (w := 32)) := ⟨fun a b c => BitVec.add_assoc a b c⟩
  refine (Host.reduce_eq_fold IntOp.addi (extui 32 p natLt_1_32) (constantI S_ 32 0#32) reducesTo_S254_S_d0 h_S_ j).trans ?_
  refine (IndicatorCount.fold_addi_setWidth_eq_card (w := 32) p _).trans (congrArg (BitVec.ofNat 32) ?_)
  refine Finset.card_bij' (fun i _ => (i 0 : Fin 254)) (fun k _ => ix1 k) ?_ ?_ ?_ ?_
  · intro i hi
    rw [Finset.mem_filter] at hi
    exact Finset.mem_filter.mpr ⟨Finset.mem_univ _, (congrArg (fun i => p i = 1#1) (range_254 i)).mp hi.2⟩
  · intro k hk
    rw [Finset.mem_filter] at hk
    rw [Finset.mem_filter, Finset.mem_filter]
    exact ⟨⟨Finset.mem_univ _, funext fun a => a.elim0⟩, hk.2⟩
  · intro i _; exact (range_254 i).symm
  · intro k _; rfl

/-- The count is the number of powers at or below the scale's magnitude. -/
theorem cntV_apply (s : FVec Ideal S1 .f32) (j : S_.Idx) :
    cntV s j = BitVec.ofNat 32 (Finset.univ.filter fun k : Fin 254 => Ideal.cmp .ole (power k) (mag (s (ix1 (0 : Fin 1)))) = 1#1).card :=
  (reduce_count _ j).trans (congrArg (fun S : Finset (Fin 254) => BitVec.ofNat 32 S.card)
    (Finset.filter_congr fun k _ => by rw [below]))

/-- The count, as a word. -/
def count (a : EReal) : BitVec 32 :=
  BitVec.ofNat 32 (Finset.univ.filter fun k : Fin 254 => Ideal.cmp .ole (power k) a = 1#1).card

theorem expV_apply (s : FVec Ideal S1 .f32) :
    expV s (ix1 (0 : Fin 1)) = refExp (mag (s (ix1 (0 : Fin 1)))) (count (mag (s (ix1 (0 : Fin 1))))) := by
  show Scalar.select (IntOp.ori (IntOp.cmpi .eq (cntV s _) 0#32) (Ideal.cmp .oeq (mag (s (ix1 (0 : Fin 1)))) (Ideal.ofBits .f32 0x7F800000#32)))
    0#32 (IntOp.subi (cntV s _) 126#32) = _
  rw [cntV_apply]
  rfl

theorem facV_apply (s : FVec Ideal S1 .f32) (i : S1.Idx) :
    (facV s i : EReal) = refFactor (mag (s (ix1 (0 : Fin 1)))) (count (mag (s (ix1 (0 : Fin 1))))) := by
  rw [one_idx i]
  show Scalar.select (IntOp.cmpi .slt (IntOp.subi 1#32 (expV s (ix1 (0 : Fin 1)))) 4294967170#32) (Ideal.ofBits .f32 0x00000000#32)
    (Ideal.pow (Ideal.ofBits .f32 0x40000000#32) (((IntOp.subi 1#32 (expV s (ix1 (0 : Fin 1)))).toInt : ℝ) : EReal)) = _
  rw [expV_apply]
  rfl

/-! ## The arrays -/

variable (m : (ℓ : Loc nD τ sig) → Buf (Elt Ideal) ℓ)

/-- The arguments: the input, the weights, the weights' scales, the scale and the bias. -/
abbrev xin (c : Dev nD) : FVec Ideal S16x1x4096 .bf16 := m ((c : Thread nD τ).loc main_arg0)
abbrev wgt (c : Dev nD) : FVec Ideal S4096x22016 .fp8e4m3 := m ((c : Thread nD τ).loc main_arg1)
abbrev wsc (c : Dev nD) : FVec Ideal S22016 .f32 := m ((c : Thread nD τ).loc main_arg2)
abbrev sca (c : Dev nD) : FVec Ideal S1 .f32 := m ((c : Thread nD τ).loc main_arg3)
abbrev bia (c : Dev nD) : FVec Ideal S22016 .f32 := m ((c : Thread nD τ).loc main_arg4)

/-- An array with a unit axis in the middle, cast to drop it. -/
theorem drop_mid (x : FVec Ideal S16x1x4096 .bf16) (r : Fin 16) (k : Fin 4096) :
    shapeCast S16x4096 x shapeCasts_S16x1x4096_S16x4096 (ix2 r k) = x (ix3 r (0 : Fin 1) k) :=
  shapeCast_apply x shapeCasts_S16x1x4096_S16x4096 _ _ (by
    rw [Shape.rowMajor_val_three, Shape.rowMajor_val_two]
    show (r.val * 1 + 0) * 4096 + k.val = r.val * 4096 + k.val
    omega)

/-- The clipped products, entry by entry. -/
theorem clip_apply (x : FVec Ideal S16x1x4096 .bf16) (f : FVec Ideal S1 .f32) (r : Fin 16) (k : Fin 4096) :
    (clipV (constant (F := Ideal) S_ .f32 0xC3E00000#32) (constant (F := Ideal) S_ .f32 0x43E00000#32) (prodV x f) (ix2 r k) : EReal)
      = clamp ((x (ix3 r (0 : Fin 1) k) : EReal) * f (ix1 (0 : Fin 1))) := by
  show clamp ((shapeCast S16x4096 x shapeCasts_S16x1x4096_S16x4096 (ix2 r k) : EReal) * f _) = _
  rw [drop_mid]
  exact congrArg (fun i => clamp ((x (ix3 r (0 : Fin 1) k) : EReal) * f i)) (one_idx _)

/-- The codes, entry by entry. -/
theorem codes_apply (c : Dev nD) (r : Fin 16) (k : Fin 4096) :
    (res5 m c (ix2 r k) : EReal) = clamp ((xin m c (ix3 r (0 : Fin 1) k) : EReal)
      * refFactor (mag (sca m c (ix1 (0 : Fin 1)))) (count (mag (sca m c (ix1 (0 : Fin 1)))))) := by
  show (k0_pay1 (V m c main_v33) (ix2 r k) : EReal) = _
  rw [V_v33]
  unfold k0_pay1
  rw [shapeCast_self]
  refine (clip_apply (xin m c) (facV (sca m c)) r k).trans ?_
  rw [facV_apply]

/-- What the launch's body computes, entry by entry. -/
theorem pay2_apply (v : FVec Ideal S16x4096 .f32) (w : FVec Ideal S4096x22016 .fp8e4m3) (s b : FVec Ideal S1x22016 .f32)
    (r : Fin 16) (j : Fin 22016) :
    (k0_pay2 (F := Ideal) v w s b (ix2 r j) : EReal)
      = (∑ k : Fin 4096, (k0_pay1 (F := Ideal) v (ix2 r k) : EReal) * w (ix2 k j)) * s (ix2 (0 : Fin 1) j) + b (ix2 (0 : Fin 1) j) := by
  unfold k0_pay2
  simp only [shapeCast_self, matmul]
  rw [truncf_apply, addf_apply, mulf_apply, broadcastTo_1b_ab_apply, broadcastTo_1b_ab_apply]
  rw [show dot_S16x4096_S4096x22016_S16x22016_1_0_0_1_n_n = DotDims.plain 16 4096 22016 from rfl, Ideal.matmul_plain_apply]
  rw [show (constant S16x22016 .f32 0x00000000#32 : FVec Ideal S16x22016 .f32) (ix2 r j) = 0 from Ideal.ofBits_zero_f32, zero_add]

/-- A row with a unit axis added, entry by entry. -/
theorem unitV_apply (w : FVec Ideal S22016 .f32) (j : Fin 22016) : unitV w (ix2 (0 : Fin 1) j) = w (ix1 j) := by
  refine congrArg w (funext fun a => ?_)
  match a with
  | ⟨0, _⟩ => rfl

/-- The columns' scales, entry by entry. -/
theorem rowV_apply (s : FVec Ideal S1 .f32) (w : FVec Ideal S22016 .f32) (j : Fin 22016) :
    (rowV s w (ix1 j) : EReal) = s (ix1 (0 : Fin 1)) * w (ix1 j) := by
  exact congrArg (fun i => (s i : EReal) * w (ix1 j)) (one_idx _)

/-- The result, entry by entry. -/
theorem y_apply (c : Dev nD) (r : Fin 16) (j : Fin 22016) :
    (res4 m c (ix2 r j) : EReal) = (∑ k : Fin 4096, @id EReal (res5 m c (ix2 r k)) * wgt m c (ix2 k j))
      * ((sca m c (ix1 (0 : Fin 1)) : EReal) * wsc m c (ix1 j)) + bia m c (ix1 j) := by
  show (k0_pay2 (F := Ideal) (V m c main_v33) (V m c main_arg1) (V m c main_v36) (V m c main_v37) (ix2 r j) : EReal) = _
  rw [pay2_apply, V_v36, V_v37, V_main_arg1, unitV_apply, unitV_apply, rowV_apply]
  rfl

end Cert.ReferenceIdeal.Arrays

end
-- ==== Proof.Equation.lean ====
/-
  The equation: from arguments that agree, the kernel's codes are the reference's and so is its result.
-/
module

public import proofs.«01_k».proof.Proof.KernelValue
public import proofs.«01_k».proof.Proof.RefValue

@[expose] public section

set_option maxRecDepth 16384

noncomputable section

namespace Cert.Equation

open Idealize.ShloMosaic Idealize.ShloMosaic.TcCoe Idealize.ShloMosaic.ValueIdx Idealize.SL Idealize.SL.Sem
open Cert.Exponent

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Arrays of two axes with the same entries are the same. -/
theorem ext2 {α : Type} {a b : ℕ} (f g : (⟨2, ![a, b]⟩ : Shape).Idx → α) (h : ∀ r j, f (ix2 r j) = g (ix2 r j)) : f = g :=
  funext fun i => by
    have e : i = ix2 (i 0) (i 1) := funext fun x => by
      match x with
      | ⟨0, _⟩ => rfl
      | ⟨1, _⟩ => rfl
    rw [e]; exact h _ _

/-- The codes. -/
theorem codes_eq (c : Dev Cert.KernelIdeal.nD) (h0 : Cert.ReferenceIdeal.Arrays.xin m' c = Cert.KernelIdeal.Body.xin m c)
    (h3 : Cert.ReferenceIdeal.Arrays.sca m' c (ix1 (0 : Fin 1)) = Cert.KernelIdeal.Body.scl m c) (r : Fin 16) (k : Fin 4096) :
    @Eq EReal (Cert.KernelIdeal.Body.codesAt m c (ix2 r k)) (Cert.ReferenceIdeal.Arrays.res5 m' c (ix2 r k)) := by
  refine (Cert.KernelIdeal.Body.codes_apply m c r k).trans (Eq.trans ?_ (Cert.ReferenceIdeal.Arrays.codes_apply m' c r k).symm)
  rw [h0, h3, factor_eq]
  rfl

/-- The result. -/
theorem y_eq (c : Dev Cert.KernelIdeal.nD) (h0 : Cert.ReferenceIdeal.Arrays.xin m' c = Cert.KernelIdeal.Body.xin m c)
    (h1 : Cert.ReferenceIdeal.Arrays.wgt m' c = Cert.KernelIdeal.Body.wgt m c)
    (h2 : Cert.ReferenceIdeal.Arrays.wsc m' c = Cert.KernelIdeal.Body.wsc m c)
    (h3 : Cert.ReferenceIdeal.Arrays.sca m' c (ix1 (0 : Fin 1)) = Cert.KernelIdeal.Body.scl m c)
    (h4 : Cert.ReferenceIdeal.Arrays.bia m' c = Cert.KernelIdeal.Body.bia m c) (r : Fin 16) (j : Fin 22016) :
    @Eq EReal (Cert.KernelIdeal.Body.yAt m c Cert.KernelIdeal.Gen.t0_15 (ix2 r j)) (Cert.ReferenceIdeal.Arrays.res4 m' c (ix2 r j)) := by
  refine (Cert.KernelIdeal.Body.y_apply m c r j).trans (Eq.trans ?_ (Cert.ReferenceIdeal.Arrays.y_apply m' c r j).symm)
  rw [h1, h2, h3, h4]
  refine congrArg (fun z : EReal => z * (Cert.KernelIdeal.Body.scl m c * (Cert.KernelIdeal.Body.wsc m c (ix1 j) : EReal)) + Cert.KernelIdeal.Body.bia m c (ix1 j))
    (Finset.sum_congr rfl fun k _ => ?_)
  exact congrArg (fun z : EReal => z * Cert.KernelIdeal.Body.wgt m c (ix2 k j)) (codes_eq m m' c h0 h3 r k)

end Cert.Equation

end
-- ==== Proof.lean ====
/-
  The proof of `Cert.Claim`: the frames of the three programs, and the equation of the kernel's results with the reference's.
  The mathematics is in proof/Proof/: what one block computes (BlockValue, Bits/BlockValue), what the kernel's arrays hold (KernelFinal,
  KernelValue), what the reference's hold (RefArrays, RefHost, RefValue), that their factors are one (Exponent), the equation (Equation).
-/
module

public import proofs.«01_k».proof.Defs
public import proofs.«01_k».proof.Proof.Bits.Body
public import proofs.«01_k».proof.Proof.Equation

@[expose] public section

noncomputable section

namespace Cert.Proof

open Idealize.ShloMosaic Idealize.ShloMosaic.TcCoe Idealize.ShloMosaic.ValueIdx Idealize.SL.Sem Cert.Kernel

/-- From arguments that agree, both programs run to the same three results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Body.res5 m c, fun c => Cert.KernelIdeal.Body.res6 m c, fun c => Cert.KernelIdeal.Body.res7 m c,
    Cert.KernelIdeal.Body.run m g, ?_⟩
  refine (θ_run (Cert.ReferenceIdeal.defs (F := Ideal)) _ _).mono (fun r h c => ?_) (Cert.ReferenceIdeal.Value.run_blocks m' g')
  obtain ⟨e4, e5, a0, a1, a2, a3, a4⟩ := h c
  obtain ⟨h0, h1, h2, h3, h4⟩ := hag c
  have h3' : Cert.ReferenceIdeal.Arrays.sca m' c (ix1 (0 : Fin 1)) = Cert.KernelIdeal.Body.scl m c := congrFun h3 (ix1 (0 : Fin 1))
  refine ⟨?_, ?_, ?_, a0, a1, a2, a3, a4⟩
  · exact (e4.trans (Cert.ReferenceIdeal.Arrays.final4 m' c)).trans
      (Cert.Equation.ext2 _ _ fun r j => (Cert.Equation.y_eq m m' c h0 h1 h2 h3' h4 r j).symm)
  · exact (e5.trans (Cert.ReferenceIdeal.Arrays.final5 m' c)).trans
      (Cert.Equation.ext2 _ _ fun r k => (Cert.Equation.codes_eq m m' c h0 h3' r k).symm)
  · exact (a3.trans h3).trans
      ((Cert.KernelIdeal.Body.iblk_0 m c Cert.KernelIdeal.Gen.t0_0).trans (Cert.KernelIdeal.Gen.V_main_arg3 m c)).symm

theorem claim : Cert.Claim :=
  ⟨Cert.Kernel.Gen.facts, Cert.KernelIdeal.Gen.facts, Cert.ReferenceIdeal.Gen.facts,
    fun m ρ _ => Cert.Kernel.Body.frame m ρ, fun m ρ _ => Cert.KernelIdeal.Body.frame m ρ,
    fun m ρ _ => Cert.ReferenceIdeal.Gen.frame m ρ, trivial, algebraic⟩

end Cert.Proof

end
